-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v106) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bitsLt_bf16_f32 : FTy.bits .bf16 < FTy.bits .f32
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x64x128 : S_.BroadcastsInDim S1x4096x64x128 (![] : Fin 0 → Fin S1x4096x64x128.rank)

variable [Facts]

def fn {F : FTy → Type} [FloatOps F] (main_arg0 : FVec F S1x256x1024 .bf16) (main_arg1 : FVec F S1024x1024 .bf16) (main_arg2 : FVec F S1x4096x64x128 .bf16) (main_arg3 : FVec F S1x4096x64x128 .bf16) (main_arg4 : FVec F S1024x1024 .bf16) : IVec S1x256x1024 1 × IVec S1024x1024 1 × IVec S1x4096x64x128 1 :=
  let main_v0 : FVec F S1x256x1024 .f32 := (extf .f32 · bitsLt_bf16_f32) main_arg0
  let main_v1 : FVec F S1x256x1024 .f32 := Host.absf main_v0
  let main_cst : FVec F S_ .f32 := constant S_ .f32 0x7F800000#32
  let main_v2 : FVec F S1x256x1024 .f32 := broadcastInDim S1x256x1024 ![] bcast_S_S1x256x1024 main_cst
  let main_v3 : IVec S1x256x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x4096x64x128 .f32 := (extf .f32 · bitsLt_bf16_f32) main_arg2
  let main_v9 : FVec F S1x4096x64x128 .f32 := Host.absf main_v8
  let main_cst_1 : FVec F S_ .f32 := constant S_ .f32 0x7F800000#32
  let main_v10 : FVec F S1x4096x64x128 .f32 := broadcastInDim S1x4096x64x128 ![] bcast_S_S1x4096x64x128 main_cst_1
  let main_v11 : IVec S1x4096x64x128 1 := cmpf .olt main_v9 main_v10
  (main_v3, main_v7, main_v11)
-- ==== Pre_finite_ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x4096x64x128 : S_.BroadcastsInDim S1x4096x64x128 (![] : Fin 0 → Fin S1x4096x64x128.rank)

variable [Facts]

def fn {F : FTy → Type} [FloatOps F] (main_arg0 : FVec F S1x2048x1024 .bf16) (main_arg1 : FVec F S1024x8192 .bf16) (main_arg2 : FVec F S1x4096x64x128 .bf16) (main_arg3 : FVec F S1x4096x64x128 .bf16) (main_arg4 : FVec F S8192x1024 .bf16) : IVec S1x2048x1024 1 × IVec S1024x8192 1 × IVec S1x4096x64x128 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_v4 : FVec F S1024x8192 .f32 := (extf .f32 · bitsLt_bf16_f32) main_arg1
  let main_v5 : FVec F S1024x8192 .f32 := Host.absf main_v4
  let main_cst_0 : FVec F S_ .f32 := constant S_ .f32 0x7F800000#32
  let main_v6 : FVec F S1024x8192 .f32 := broadcastInDim S1024x8192 ![] bcast_S_S1024x8192 main_cst_0
  let main_v7 : IVec S1024x8192 1 := cmpf .olt main_v5 main_v6
  let main_v8 : FVec F S1x4096x64x128 .f32 := (extf .f32 · bitsLt_bf16_f32) main_arg2
  let main_v9 : FVec F S1x4096x64x128 .f32 := Host.absf main_v8
  let main_cst_1 : FVec F S_ .f32 := constant S_ .f32 0x7F800000#32
  let main_v10 : FVec F S1x4096x64x128 .f32 := broadcastInDim S1x4096x64x128 ![] bcast_S_S1x4096x64x128 main_cst_1
  let main_v11 : IVec S1x4096x64x128 1 := cmpf .olt main_v9 main_v10
  (main_v3, main_v7, main_v11)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩
abbrev S256x1024 : Shape := ⟨2, ![256, 1024]⟩
abbrev S1024x8x128 : Shape := ⟨3, ![1024, 8, 128]⟩
abbrev S8x1024x128 : Shape := ⟨3, ![8, 1024, 128]⟩
abbrev S8x128x1024 : Shape := ⟨3, ![8, 128, 1024]⟩
abbrev S4096x64x128 : Shape := ⟨3, ![4096, 64, 128]⟩
abbrev S4096x8x128 : Shape := ⟨3, ![4096, 8, 128]⟩
abbrev S8x4096x128 : Shape := ⟨3, ![8, 4096, 128]⟩
abbrev S2x256x1024 : Shape := ⟨3, ![2, 256, 1024]⟩
abbrev S2 : Shape := ⟨1, ![2]⟩
abbrev S1 : Shape := ⟨1, ![1]⟩
abbrev S8x128x256 : Shape := ⟨3, ![8, 128, 256]⟩
abbrev S8x256x4096 : Shape := ⟨3, ![8, 256, 4096]⟩
abbrev S8x256 : Shape := ⟨2, ![8, 256]⟩
abbrev S8x256x1 : Shape := ⟨3, ![8, 256, 1]⟩
abbrev S8x256x128 : Shape := ⟨3, ![8, 256, 128]⟩
abbrev S8x256x1024 : Shape := ⟨3, ![8, 256, 1024]⟩

abbrev nBuf : Space → Nat
  | .hbm => 41
  | .vmem => 8
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x64x128, .bf16⟩
  | .hbm, ⟨3, _⟩ => ⟨S1x4096x64x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x1024, .bf16⟩
  | .hbm, ⟨12, _⟩ => ⟨S1024x8x128, .bf16⟩
  | .hbm, ⟨13, _⟩ => ⟨S8x1024x128, .bf16⟩
  | .hbm, ⟨14, _⟩ => ⟨S8x128x1024, .bf16⟩
  | .hbm, ⟨15, _⟩ => ⟨S4096x64x128, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4096x8x128, .bf16⟩
  | .hbm, ⟨26, _⟩ => ⟨S8x4096x128, .bf16⟩
  | .hbm, ⟨27, _⟩ => ⟨S4096x64x128, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4096x8x128, .bf16⟩
  | .hbm, ⟨38, _⟩ => ⟨S8x4096x128, .bf16⟩
  | .hbm, ⟨39, _⟩ => ⟨S256x1024, .f32⟩
  | .hbm, ⟨40, _⟩ => ⟨S1x256x1024, .f32⟩
  | .local _ .vmem, ⟨0, _⟩ => ⟨S256x1024, .bf16⟩
  | .local _ .vmem, ⟨1, _⟩ => ⟨S8x1024x128, .bf16⟩
  | .local _ .vmem, ⟨2, _⟩ => ⟨S8x128x1024, .bf16⟩
  | .local _ .vmem, ⟨3, _⟩ => ⟨S8x4096x128, .bf16⟩
  | .local _ .vmem, ⟨4, _⟩ => ⟨S8x4096x128, .bf16⟩
  | .local _ .vmem, ⟨5, _⟩ => ⟨S256x1024, .f32⟩
  | .local _ .vmem, ⟨6, _⟩ => ⟨S2x256x1024, .bf16⟩
  | .local _ .vmem, ⟨7, _⟩ => ⟨S2x256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_c_9 : Ref sig .tc := ⟨.hbm, 35, rfl⟩
abbrev main_c_10 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v30 : BitVec 32 := Scalar.muli v13 c1_i32_20
  let v31 : BitVec 32 := Scalar.addi c0_i32_21 v30
  v31.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v32 : BitVec 32 := Scalar.muli v13 c1_i32_23
  let v33 : BitVec 32 := Scalar.addi c0_i32_24 v32
  v33.toNat
@[reducible] def k0_t1_loop : Scf.Loop 32 :=
  let c0_i32_32 : BitVec 32 := 0#32
  let c8_i32_33 : BitVec 32 := 8#32
  let v43 : BitVec 32 := Scalar.addi c0_i32_32 c8_i32_33
  let c1_i32_34 : BitVec 32 := 1#32
  ⟨c0_i32_32, v43, c1_i32_34⟩
def k0_cond1 (k0_t1 : Fin k0_t1_loop.trips) : BitVec 1 :=
  let c0_i32_32 : BitVec 32 := 0#32
  let c1_i32_34 : BitVec 32 := 1#32
  let arg14 : BitVec 32 := Scf.iv c0_i32_32 c1_i32_34 k0_t1
  let c7_i32 : BitVec 32 := 7#32
  let v65 : BitVec 1 := Scalar.cmpi .slt arg14 c7_i32
  let v66 : BitVec 32 := Scalar.extui v65
  let c0_i32_63 : BitVec 32 := 0#32
  let v67 : BitVec 1 := Scalar.cmpi .ne v66 c0_i32_63
  v67

def k0_off1 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  ![v62.toNat]
def k0_off2 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  ![v64.toNat]
def k0_off3 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  let c0_i32_106 : BitVec 32 := 0#32
  let c0_i32_107 : BitVec 32 := 0#32
  ![v64.toNat, 0, 0]
def k0_off4 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  let c0_i32_108 : BitVec 32 := 0#32
  let c0_i32_109 : BitVec 32 := 0#32
  ![v62.toNat, 0, 0]
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_104 : BitVec 32 := 1#32
  let v124 : BitVec 32 := Scalar.muli v24 c1_i32_104
  let v125 : BitVec 32 := Scalar.addi c0_i32_105 v124
  v125.toNat
def k0_off5 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  let v68 : Index := Scalar.indexCast v62
  let c0_64 : Index := 0#32
  let c0_65 : Index := 0#32
  ![v68.toNat, 0, 0]
def k0_cond2 (k0_t1 : Fin k0_t1_loop.trips) : BitVec 1 :=
  let c0_i32_32 : BitVec 32 := 0#32
  let c1_i32_34 : BitVec 32 := 1#32
  let arg14 : BitVec 32 := Scf.iv c0_i32_32 c1_i32_34 k0_t1
  let c0_i32_85 : BitVec 32 := 0#32
  let v95 : BitVec 1 := Scalar.cmpi .sgt arg14 c0_i32_85
  let v96 : BitVec 32 := Scalar.extui v95
  let c0_i32_86 : BitVec 32 := 0#32
  let v97 : BitVec 1 := Scalar.cmpi .ne v96 c0_i32_86
  v97

def k0_off6 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  ![v64.toNat]
def k0_off7 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  let c0_i32_103 : BitVec 32 := 0#32
  let c0_i32_104 : BitVec 32 := 0#32
  ![v64.toNat, 0, 0]
def k0_off8 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  let c0_i32_105 : BitVec 32 := 0#32
  let c0_i32_106 : BitVec 32 := 0#32
  ![v62.toNat, 0, 0]
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v130 : BitVec 32 := Scalar.muli v13 c1_i32_108
  let v131 : BitVec 32 := Scalar.addi c0_i32_109 v130
  v131.toNat
def k0_off9 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  ![v62.toNat]
def k0_off10 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  ![v62.toNat]
def k0_off11 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  ![v64.toNat]
def k0_off12 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  let c0_i32_95 : BitVec 32 := 0#32
  let c0_i32_96 : BitVec 32 := 0#32
  ![v64.toNat, 0, 0]
def k0_off13 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  let c0_i32_97 : BitVec 32 := 0#32
  let c0_i32_98 : BitVec 32 := 0#32
  ![v62.toNat, 0, 0]
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_93 : BitVec 32 := 1#32
  let v108 : BitVec 32 := Scalar.muli v24 c1_i32_93
  let v109 : BitVec 32 := Scalar.addi c0_i32_94 v108
  v109.toNat
def k0_cond3 (k0_t1 : Fin k0_t1_loop.trips) : BitVec 1 :=
  let c0_i32_32 : BitVec 32 := 0#32
  let c1_i32_34 : BitVec 32 := 1#32
  let arg14 : BitVec 32 := Scf.iv c0_i32_32 c1_i32_34 k0_t1
  let c7_i32_99 : BitVec 32 := 7#32
  let v118 : BitVec 1 := Scalar.cmpi .slt arg14 c7_i32_99
  let v119 : BitVec 32 := Scalar.extui v118
  let c0_i32_100 : BitVec 32 := 0#32
  let v120 : BitVec 1 := Scalar.cmpi .ne v119 c0_i32_100
  v120

def k0_off14 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  ![v64.toNat]
def k0_off15 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c1_i32_61 : BitVec 32 := 1#32
  let v63 : BitVec 32 := Scalar.addi arg14 c1_i32_61
  let c2_i32_62 : BitVec 32 := 2#32
  let v64 : BitVec 32 := Scalar.remsi v63 c2_i32_62
  let c0_i32_104 : BitVec 32 := 0#32
  let c0_i32_105 : BitVec 32 := 0#32
  ![v64.toNat, 0, 0]
def k0_off16 (k0_t1 : Fin k0_t1_loop.trips) : Fin 3 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  let c0_i32_106 : BitVec 32 := 0#32
  let c0_i32_107 : BitVec 32 := 0#32
  ![v62.toNat, 0, 0]
def k0_off17 (k0_t1 : Fin k0_t1_loop.trips) : Fin 1 → Nat :=
  let c0_i32_32 : BitVec 32 := 0#32
  let c1_i32_34 : BitVec 32 := 1#32
  let arg14 : BitVec 32 := Scf.iv c0_i32_32 c1_i32_34 k0_t1
  let c2_i32_60 : BitVec 32 := 2#32
  let v62 : BitVec 32 := Scalar.remsi arg14 c2_i32_60
  ![v62.toNat]
def k0_cond4 (k0_t1 : Fin k0_t1_loop.trips) : BitVec 1 :=
  let c0_i32_32 : BitVec 32 := 0#32
  let c1_i32_34 : BitVec 32 := 1#32
  let arg14 : BitVec 32 := Scf.iv c0_i32_32 c1_i32_34 k0_t1
  let c6_i32 : BitVec 32 := 6#32
  let v121 : BitVec 1 := Scalar.cmpi .slt arg14 c6_i32
  let v122 : BitVec 32 := Scalar.extui v121
  let c0_i32_101 : BitVec 32 := 0#32
  let v123 : BitVec 1 := Scalar.cmpi .ne v122 c0_i32_101
  v123

def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_103 : BitVec 32 := 1#32
  let v124 : BitVec 32 := Scalar.muli v13 c1_i32_103
  let v125 : BitVec 32 := Scalar.addi c0_i32_104 v124
  v125.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S_ : Shape := ⟨0, ![]⟩
abbrev S1x64x2048x1 : Shape := ⟨4, ![1, 64, 2048, 1]⟩
abbrev S1x1024x64x128 : Shape := ⟨4, ![1, 1024, 64, 128]⟩
abbrev S1x64x2048x1024 : Shape := ⟨4, ![1, 64, 2048, 1024]⟩
abbrev S1x64x2048 : Shape := ⟨3, ![1, 64, 2048]⟩
abbrev S1x2048x64x1 : Shape := ⟨4, ![1, 2048, 64, 1]⟩
abbrev S1x64x128x2048 : Shape := ⟨4, ![1, 64, 128, 2048]⟩

abbrev nBuf : Space → Nat
  | .hbm => 127
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x4096x64x128, .bf16⟩
  | .hbm, ⟨3, _⟩ => ⟨S1x4096x64x128, .bf16⟩
  | .hbm, ⟨4, _⟩ => ⟨S8192x1024, .bf16⟩
  | .hbm, ⟨5, _⟩ => ⟨S1x2048x1024, .f32⟩
  | .hbm, ⟨6, _⟩ => ⟨S1024x8192, .f32⟩
  | .hbm, ⟨7, _⟩ => ⟨S1x4096x64x128, .f32⟩
  | .hbm, ⟨8, _⟩ => ⟨S1x4096x64x128, .f32⟩
  | .hbm, ⟨9, _⟩ => ⟨S8192x1024, .f32⟩
  | .hbm, ⟨10, _⟩ => ⟨S1x2048x8192, .f32⟩
  | .hbm, ⟨11, _⟩ => ⟨S1x2048x64x128, .f32⟩
  | .hbm, ⟨12, _⟩ => ⟨S_, .f32⟩
  | .hbm, ⟨13, _⟩ => ⟨S1x2048x64x128, .f32⟩
  | .hbm, ⟨14, _⟩ => ⟨S_, .f32⟩
  | .hbm, ⟨15, _⟩ => ⟨S1x64x2048x1, .f32⟩
  | .hbm, ⟨16, _⟩ => ⟨S_, .f32⟩
  | .hbm, ⟨17, _⟩ => ⟨S1x64x2048x1, .f32⟩
  | .hbm, ⟨18, _⟩ => ⟨S1x1024x64x128, .f32⟩
  | .hbm, ⟨19, _⟩ => ⟨S1x1024x64x128, .f32⟩
  | .hbm, ⟨20, _⟩ => ⟨S1x64x2048x1024, .f32⟩
  | .hbm, ⟨21, _⟩ => ⟨S_, .f32⟩
  | .hbm, ⟨22, _⟩ => ⟨S1x64x2048x1024, .f32⟩
  | .hbm, ⟨23, _⟩ => ⟨S1x64x2048x1024, .f32⟩
  | .hbm, ⟨24, _⟩ => ⟨S_, .f32⟩
  | .hbm, ⟨25, _⟩ => ⟨S1x64x2048, .f32⟩
  | .hbm, ⟨26, _⟩ => ⟨S1x64x2048x1, .f32⟩
  | .hbm, ⟨27, _⟩ => ⟨S1x64x2048x1, .f32⟩
  | .hbm, ⟨28, _⟩ => ⟨S1x64x2048x1, .f32⟩
  | .hbm, ⟨29, _⟩ => ⟨S1x64x2048x1, .f32⟩
  | .hbm, ⟨30, _⟩ => ⟨S1x64x2048x1024, .f32⟩
  | .hbm, ⟨31, _⟩ => ⟨S1x64x2048x1024, .f32⟩
  | .hbm, ⟨32, _⟩ => ⟨S1x64x2048x1024, .f32⟩
  | .hbm, ⟨33, _⟩ => ⟨S1x64x2048x1, .f32⟩
  | .hbm, ⟨34, _⟩ => ⟨S_, .f32⟩
  | .hbm, ⟨35, _⟩ => ⟨S1x64x2048, .f32⟩
  | .hbm, ⟨36, _⟩ => ⟨S1x64x2048x1, .f32⟩
  | .hbm, ⟨37, _⟩ => ⟨S1x64x2048x1, .f32⟩
  | .hbm, ⟨38, _⟩ => ⟨S1x2048x64x1, .f32⟩
  | .hbm, ⟨39, _⟩ => ⟨S1x2048x64x128, .f32⟩
  | .hbm, ⟨40, _⟩ => ⟨S1x2048x64x128, .f32⟩
  | .hbm, ⟨41, _⟩ => ⟨S1x64x128x2048, .f32⟩
  | .hbm, ⟨42, _⟩ => ⟨S1x2048x64x128, .f32⟩
  | .hbm, ⟨43, _⟩ => ⟨S1x2048x64x128, .f32⟩
  | .hbm, ⟨44, _⟩ => ⟨S1x1024x64x128, .f32⟩
  | .hbm, ⟨45, _⟩ => ⟨S1x1024x64x128, .f32⟩
  | .hbm, ⟨46, _⟩ => ⟨S1x64x2048x1024, .f32⟩
  | .hbm, ⟨47, _⟩ => ⟨S_, .f32⟩
  | .hbm, ⟨48, _⟩ => ⟨S1x64x2048x1024, .f32⟩
  | .hbm, ⟨49, _⟩ => ⟨S1x64x2048x1024, .f32⟩
  | .hbm, ⟨50, _⟩ => ⟨S_, .f32⟩
  | .hbm, ⟨51, _⟩ => ⟨S1x64x2048, .f32⟩
  | .hbm, ⟨52, _⟩ => ⟨S1x64x2048x1, .f32⟩
  | .hbm, ⟨53, _⟩ => ⟨S1x64x2048x1, .f32⟩
  | .hbm, ⟨54, _⟩ => ⟨S1x64x2048x1, .f32⟩
  | .hbm, ⟨55, _⟩ => ⟨S1x64x2048x1, .f32⟩
  | .hbm, ⟨56, _⟩ => ⟨S1x64x2048x1024, .f32⟩
  | .hbm, ⟨57, _⟩ => ⟨S1x64x2048x1024, .f32⟩
  | .hbm, ⟨58, _⟩ => ⟨S1x64x2048x1024, .f32⟩
  | .hbm, ⟨59, _⟩ => ⟨S1x64x2048x1, .f32⟩
  | .hbm, ⟨60, _⟩ => ⟨S_, .f32⟩
  | .hbm, ⟨61, _⟩ => ⟨S1x64x2048, .f32⟩
  | .hbm, ⟨62, _⟩ => ⟨S1x64x2048x1, .f32⟩
  | .hbm, ⟨63, _⟩ => ⟨S1x64x2048x1, .f32⟩
  | .hbm, ⟨64, _⟩ => ⟨S1x2048x64x1, .f32⟩
  | .hbm, ⟨65, _⟩ => ⟨S1x2048x64x128, .f32⟩
  | .hbm, ⟨66, _⟩ => ⟨S1x2048x64x128, .f32⟩
  | .hbm, ⟨67, _⟩ => ⟨S1x64x128x2048, .f32⟩
  | .hbm, ⟨68, _⟩ => ⟨S1x2048x64x128, .f32⟩
  | .hbm, ⟨69, _⟩ => ⟨S1x2048x64x128, .f32⟩
  | .hbm, ⟨70, _⟩ => ⟨S1x1024x64x128, .f32⟩
  | .hbm, ⟨71, _⟩ => ⟨S1x1024x64x128, .f32⟩
  | .hbm, ⟨72, _⟩ => ⟨S1x64x2048x1024, .f32⟩
  | .hbm, ⟨73, _⟩ => ⟨S_, .f32⟩
  | .hbm, ⟨74, _⟩ => ⟨S1x64x2048x1024, .f32⟩
  | .hbm, ⟨75, _⟩ => ⟨S1x64x2048x1024, .f32⟩
  | .hbm, ⟨76, _⟩ => ⟨S_, .f32⟩
  | .hbm, ⟨77, _⟩ => ⟨S1x64x2048, .f32⟩
  | .hbm, ⟨78, _⟩ => ⟨S1x64x2048x1, .f32⟩
  | .hbm, ⟨79, _⟩ => ⟨S1x64x2048x1, .f32⟩
  | .hbm, ⟨80, _⟩ => ⟨S1x64x2048x1, .f32⟩
  | .hbm, ⟨81, _⟩ => ⟨S1x64x2048x1, .f32⟩
  | .hbm, ⟨82, _⟩ => ⟨S1x64x2048x1024, .f32⟩
  | .hbm, ⟨83, _⟩ => ⟨S1x64x2048x1024, .f32⟩
  | .hbm, ⟨84, _⟩ => ⟨S1x64x2048x1024, .f32⟩
  | .hbm, ⟨85, _⟩ => ⟨S1x64x2048x1, .f32⟩
  | .hbm, ⟨86, _⟩ => ⟨S_, .f32⟩
  | .hbm, ⟨87, _⟩ => ⟨S1x64x2048, .f32⟩
  | .hbm, ⟨88, _⟩ => ⟨S1x64x2048x1, .f32⟩
  | .hbm, ⟨89, _⟩ => ⟨S1x64x2048x1, .f32⟩
  | .hbm, ⟨90, _⟩ => ⟨S1x2048x64x1, .f32⟩
  | .hbm, ⟨91, _⟩ => ⟨S1x2048x64x128, .f32⟩
  | .hbm, ⟨92, _⟩ => ⟨S1x2048x64x128, .f32⟩
  | .hbm, ⟨93, _⟩ => ⟨S1x64x128x2048, .f32⟩
  | .hbm, ⟨94, _⟩ => ⟨S1x2048x64x128, .f32⟩
  | .hbm, ⟨95, _⟩ => ⟨S1x2048x64x128, .f32⟩
  | .hbm, ⟨96, _⟩ => ⟨S1x1024x64x128, .f32⟩
  | .hbm, ⟨97, _⟩ => ⟨S1x1024x64x128, .f32⟩
  | .hbm, ⟨98, _⟩ => ⟨S1x64x2048x1024, .f32⟩
  | .hbm, ⟨99, _⟩ => ⟨S_, .f32⟩
  | .hbm, ⟨100, _⟩ => ⟨S1x64x2048x1024, .f32⟩
  | .hbm, ⟨101, _⟩ => ⟨S1x64x2048x1024, .f32⟩
  | .hbm, ⟨102, _⟩ => ⟨S_, .f32⟩
  | .hbm, ⟨103, _⟩ => ⟨S1x64x2048, .f32⟩
  | .hbm, ⟨104, _⟩ => ⟨S1x64x2048x1, .f32⟩
  | .hbm, ⟨105, _⟩ => ⟨S1x64x2048x1, .f32⟩
  | .hbm, ⟨106, _⟩ => ⟨S1x64x2048x1, .f32⟩
  | .hbm, ⟨107, _⟩ => ⟨S1x64x2048x1, .f32⟩
  | .hbm, ⟨108, _⟩ => ⟨S1x64x2048x1024, .f32⟩
  | .hbm, ⟨109, _⟩ => ⟨S1x64x2048x1024, .f32⟩
  | .hbm, ⟨110, _⟩ => ⟨S1x64x2048x1024, .f32⟩
  | .hbm, ⟨111, _⟩ => ⟨S1x64x2048x1, .f32⟩
  | .hbm, ⟨112, _⟩ => ⟨S_, .f32⟩
  | .hbm, ⟨113, _⟩ => ⟨S1x64x2048, .f32⟩
  | .hbm, ⟨114, _⟩ => ⟨S1x64x2048x1, .f32⟩
  | .hbm, ⟨115, _⟩ => ⟨S1x64x2048x1, .f32⟩
  | .hbm, ⟨116, _⟩ => ⟨S1x2048x64x1, .f32⟩
  | .hbm, ⟨117, _⟩ => ⟨S1x2048x64x128, .f32⟩
  | .hbm, ⟨118, _⟩ => ⟨S1x2048x64x128, .f32⟩
  | .hbm, ⟨119, _⟩ => ⟨S1x64x128x2048, .f32⟩
  | .hbm, ⟨120, _⟩ => ⟨S1x2048x64x128, .f32⟩
  | .hbm, ⟨121, _⟩ => ⟨S1x2048x64x128, .f32⟩
  | .hbm, ⟨122, _⟩ => ⟨S1x2048x64x1, .f32⟩
  | .hbm, ⟨123, _⟩ => ⟨S1x2048x64x128, .f32⟩
  | .hbm, ⟨124, _⟩ => ⟨S1x2048x64x128, .f32⟩
  | .hbm, ⟨125, _⟩ => ⟨S1x2048x8192, .f32⟩
  | .hbm, ⟨126, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_v83 : Ref sig .tc := ⟨.hbm, 101, rfl⟩
abbrev main_cst_12 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_13 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩

abbrev nD : Nat := 1
abbrev τ : Topo := Topo.v7x

variable {F : FTy → Type} [FloatOps F]
-- ==== Proof.Protocol.lean ====
/-
  The ring protocol of the kernel: eight devices pass the rows `x` and the partial sums round a ring, eight hops.
  Device `c` sends to `nxt c` and credits `prv c`. At hop `h` it works in slot `h % 2` of each two-slot buffer and sends
  into slot `(h + 1) % 2` of the next device. This module names the cells, what each device's slots hold at each hop, and
  the schedule of payments of every cell with the contents that travel with them.
-/
module

public import proofs.«01_k».proof.Proof.Gen.KernelIdeal.Regions
public import proofs.«01_k».proof.Proof.Gen.KernelIdeal.Loops
public import proofs.«01_k».proof.Proof.Gen.KernelIdeal.Points
public import Idealize.ShloMosaic.Lib.Rounds
public import Idealize.ShloMosaic.Lib.Release
public import Idealize.ShloMosaic.Lib.Pipeline.TalkSites
public import Idealize.ShloMosaic.Lib.Pipeline.RegionTalk
public import Idealize.ShloMosaic.Lib.Pipeline.Kit
public import Idealize.ShloMosaic.Lib.ViewIndex
public import Idealize.ShloMosaic.Lib.WholeRead
public import Idealize.ShloMosaic.Lib.Tactic

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Cert.KernelIdeal Cert.KernelIdeal.Gen

variable {F : FTy → Type} [FloatOps F]

/-- The ghost state: the staging library's component, the rounds of the ring's cells, the slots' release counts. -/
abbrev UU : Type := UR sig nD τ × (URounds (GSem nD τ sig) ℕ × USlots (Dev nD × Fin 2))

local notation "𝕄" => MT nD τ sig ℕ (Elt F) ℕ UU ℕ

/-- The staging library's component. -/
abbrev EP : Emb (UR sig nD τ) (MT nD τ sig ℕ (Elt F) ℕ UU ℕ) := embL
/-- The ring cells' rounds. -/
abbrev EC : Emb (URounds (GSem nD τ sig) ℕ) (MT nD τ sig ℕ (Elt F) ℕ UU ℕ) :=
  (Emb.inl : Emb (URounds (GSem nD τ sig) ℕ) (URounds (GSem nD τ sig) ℕ × USlots (Dev nD × Fin 2))).trans embR
/-- The slots' release counts. -/
abbrev ES : Emb (USlots (Dev nD × Fin 2)) (MT nD τ sig ℕ (Elt F) ℕ UU ℕ) :=
  (Emb.inr : Emb (USlots (Dev nD × Fin 2)) (URounds (GSem nD τ sig) ℕ × USlots (Dev nD × Fin 2))).trans embR

/-! ## The ring -/

/-- The next device of the ring. -/
def nxt (c : Dev nD) : Dev nD := ⟨(c.val + 1) % 8, Nat.mod_lt _ (by decide)⟩
/-- The previous device of the ring. -/
def prv (c : Dev nD) : Dev nD := ⟨(c.val + 7) % 8, Nat.mod_lt _ (by decide)⟩
theorem nxt_prv (c : Dev nD) : nxt (prv c) = c := by revert c; decide
theorem prv_nxt (c : Dev nD) : prv (nxt c) = c := by revert c; decide
/-- One step round the ring, as an equivalence. -/
def ring : Dev nD ≃ Dev nD := ⟨nxt, prv, prv_nxt, nxt_prv⟩

/-! ## The semaphores -/

/-- The barrier, the credit for a row slot, the credit for a sum slot. -/
abbrev barS : SemLoc sig := .reg 2
@[inherit_doc barS] abbrev xcS : SemLoc sig := .reg 0
@[inherit_doc barS] abbrev acS : SemLoc sig := .reg 1
/-- The send and receive semaphores of the row slots and of the sum slots, by the slot's parity. -/
def xsS (h : ℕ) : SemLoc sig := .dma ⟨6 + h % 2, by have := Nat.mod_lt h (by decide : 0 < 2); show 6 + h % 2 < 14; omega⟩
@[inherit_doc xsS] def xrS (h : ℕ) : SemLoc sig := .dma ⟨8 + h % 2, by have := Nat.mod_lt h (by decide : 0 < 2); show 8 + h % 2 < 14; omega⟩
@[inherit_doc xsS] def asS (h : ℕ) : SemLoc sig := .dma ⟨10 + h % 2, by have := Nat.mod_lt h (by decide : 0 < 2); show 10 + h % 2 < 14; omega⟩
@[inherit_doc xsS] def arS (h : ℕ) : SemLoc sig := .dma ⟨12 + h % 2, by have := Nat.mod_lt h (by decide : 0 < 2); show 12 + h % 2 < 14; omega⟩

/-- A device's cell at a semaphore. -/
abbrev cell (c : Dev nD) (s : SemLoc sig) : GSem nD τ sig := ((c : Thread nD τ), s)

/-- What a semaphore serves. -/
inductive Role where
  | bar | xc | ac | xs (j : ℕ) | xr (j : ℕ) | as (j : ℕ) | ar (j : ℕ) | other
  deriving DecidableEq

/-- A semaphore's role. -/
def role : SemLoc sig → Role
  | .reg s => if s.val = 0 then .xc else if s.val = 1 then .ac else .bar
  | .dma s => if s.val < 6 then .other else if s.val < 8 then .xs (s.val - 6) else if s.val < 10 then .xr (s.val - 8)
      else if s.val < 12 then .as (s.val - 10) else .ar (s.val - 12)

theorem role_bar : role barS = .bar := by decide
theorem role_xc : role xcS = .xc := by decide
theorem role_ac : role acS = .ac := by decide
theorem role_xs (h : ℕ) : role (xsS h) = .xs (h % 2) := by
  rcases Nat.mod_two_eq_zero_or_one h with e | e <;> simp [role, xsS, e]
theorem role_xr (h : ℕ) : role (xrS h) = .xr (h % 2) := by
  rcases Nat.mod_two_eq_zero_or_one h with e | e <;> simp [role, xrS, e]
theorem role_as (h : ℕ) : role (asS h) = .as (h % 2) := by
  rcases Nat.mod_two_eq_zero_or_one h with e | e <;> simp [role, asS, e]
theorem role_ar (h : ℕ) : role (arS h) = .ar (h % 2) := by
  rcases Nat.mod_two_eq_zero_or_one h with e | e <;> simp [role, arS, e]

/-! ## The slots -/

/-- The two-slot buffer of rows, the two-slot buffer of sums. -/
abbrev xM : Memref sig .tc .vmem S2x256x1024 .bf16 := Memref.whole cc0_scratch0
@[inherit_doc xM] abbrev aM : Memref sig .tc .vmem S2x256x1024 .bf16 := Memref.whole cc0_scratch1

theorem slot_inb (h : ℕ) : ∀ a, (![h % 2, 0, 0] : Fin 3 → ℕ) a + S1x256x1024.size a ≤ S2x256x1024.size a := by
  rcases Nat.mod_two_eq_zero_or_one h with e | e <;> rw [e] <;> decide

/-- The rectangle of slot `h % 2`. -/
abbrev slotRect (h : ℕ) : Rect S2x256x1024 := Rect.unit (s := S2x256x1024) ![h % 2, 0, 0] S1x256x1024.size (slot_inb h)

/-- The elements of slot `h % 2` of a two-slot buffer. -/
abbrev slotSet (M : Memref sig .tc .vmem S2x256x1024 .bf16) (h : ℕ) : Finset M.view.ty.Idx := (M.view.slice (slotRect h)).set

/-- Contents of a two-slot buffer that hold `X` in both slots. -/
def fill {M : Memref sig .tc .vmem S2x256x1024 .bf16} (hM : M.IsWhole) (X : Vec F S1x256x1024 .bf16) : M.view.ty.Contents (Elt F) :=
  hM.unread fun i => X ((fun | 0 => ⟨0, by decide⟩ | 1 => i 1 | 2 => i 2 : (a : Fin 3) → Fin (S1x256x1024.size a)) : S1x256x1024.Idx)

/-- Slot `h % 2` of device `c`'s buffer, held at share `q` with `X` in it. -/
def slotPt {M : Memref sig .tc .vmem S2x256x1024 .bf16} (hM : M.IsWhole) (c : Dev nD) (h : ℕ) (q : PosShare TreeShare) (X : Vec F S1x256x1024 .bf16) : sProp 𝕄 :=
  M.view.loc (c : Thread nD τ) ↦[slotSet M h]{q} fill hM X

/-- Slot `h % 2` of device `c`'s buffer, held whole with any contents. -/
abbrev slotAny (M : Memref sig .tc .vmem S2x256x1024 .bf16) (c : Dev nD) (h : ℕ) : sProp 𝕄 :=
  slot (M.view.loc (c : Thread nD τ)) (slotSet M h)

abbrev hx : xM.IsWhole := Memref.isWhole_whole _
abbrev ha : aM.IsWhole := Memref.isWhole_whole _

instance slotPt_storable {M : Memref sig .tc .vmem S2x256x1024 .bf16} (hM : M.IsWhole) (c : Dev nD) (h : ℕ) (q : PosShare TreeShare) (X : Vec F S1x256x1024 .bf16) :
    BI.Storable (upEmb : UEmb _ 𝕄) (slotPt hM c h q X) := by unfold slotPt; infer_instance

/-- What the copies of a slot of rows, of a slot of sums, add to a semaphore. -/
abbrev Nx : ℕ := (xM.slice (slotRect 0) (fun _ => rfl) |>.squeeze S256x1024 squeezes_S1x256x1024_S256x1024).view.dmaCredit
@[inherit_doc Nx] abbrev Na : ℕ := (aM.slice (slotRect 0) (fun _ => rfl) |>.squeeze S256x1024 squeezes_S1x256x1024_S256x1024).view.dmaCredit

/-! ## What travels -/

/-- A device's inputs, as staged: its rows, its heads' query, key, value and output weights. -/
structure Inp (F : FTy → Type) where
  x : Vec F S256x1024 .bf16
  wq : Vec F S8x1024x128 .bf16
  wo : Vec F S8x128x1024 .bf16
  k : Vec F S8x4096x128 .bf16
  v : Vec F S8x4096x128 .bf16

variable (D : Dev nD → Inp F)

/-- The rows device `c` works on at hop `h`: those of the device `h` places before it. -/
def rows : ℕ → Dev nD → Vec F S1x256x1024 .bf16
  | 0, c => k0_pay3 (D c).x
  | h + 1, c => rows h (prv c)

/-- The heads of device `c` applied to rows `X`. -/
def heads (c : Dev nD) (X : Vec F S1x256x1024 .bf16) : FVec F S8x256x1024 .f32 := k0_pay2 X (D c).wq (D c).k (D c).v (D c).wo

/-- The sum device `c` starts hop `h` from: what the device before it left. -/
def sums : ℕ → Dev nD → Vec F S1x256x1024 .bf16
  | 0, _ => k0_pay4
  | h + 1, c => k0_pay5 (heads D (prv c) (rows D h (prv c))) (sums h (prv c))

/-! ## The schedule -/

/-- That the sum slot for device `p`'s send of hop `h` is free: `p`'s next device has released it and stands at the receive
    round. Here `r` is that next device. -/
def freeFact (r : Dev nD) (h : ℕ) : sProp 𝕄 :=
  iprop(released ES (r, (⟨(h + 1) % 2, Nat.mod_lt _ (by decide)⟩ : Fin 2)) (h / 2 + 1) ∗ reached EC (cell r (arS (h + 1))) (h / 2))

instance freeFact_persistent (r : Dev nD) (h : ℕ) : BI.Persistent (freeFact (F := F) r h) := by unfold freeFact; infer_instance
instance freeFact_storable (r : Dev nD) (h : ℕ) : BI.Storable (upEmb : UEmb _ 𝕄) (freeFact (F := F) r h) := by unfold freeFact; infer_instance

/-- The barrier: from the previous device (duty 0), that its two credit cells are open; from the next (duty 1), nothing. -/
def barPay (c : Dev nD) (d : ℕ) : sProp 𝕄 :=
  if d = 0 then iprop(reached EC (cell (prv c) xcS) 0 ∗ reached EC (cell (prv c) acS) 0) else iprop(emp)
/-- A row credit of hop `h` at `c`: the next device's row slot, and that it stands at the receive round. -/
def xcPay (c : Dev nD) (h : ℕ) : sProp 𝕄 := iprop(slotAny xM (nxt c) (h + 1) ∗ reached EC (cell (nxt c) (xrS (h + 1))) (h / 2))
/-- The sum credit `d` at `c`: the next device's sum slots for hop `d` and the hop before are free. -/
def acPay (c : Dev nD) (d : ℕ) : sProp 𝕄 := iprop(freeFact (nxt c) d ∗ freeFact (nxt c) (d - 1))
/-- The send of rows of hop `h`: half of the slot comes back. -/
def xsPay (c : Dev nD) (h : ℕ) : sProp 𝕄 := slotPt hx c h fullShare.left (rows D h c)
/-- The arrival of rows of hop `h`: the slot with the rows of the next hop, and that the sender's next credit round is reached. -/
def xrPay (c : Dev nD) (h : ℕ) : sProp 𝕄 := iprop(slotPt hx c (h + 1) fullShare (rows D (h + 1) c) ∗ reached EC (cell (prv c) xcS) (h + 1))
/-- The send of the sum of hop `h`: the slot comes back. -/
def asPay (c : Dev nD) (h : ℕ) : sProp 𝕄 := slotAny aM c h
/-- The arrival of the sum of hop `h`: the slot with the sum of the next hop. -/
def arPay (c : Dev nD) (h : ℕ) : sProp 𝕄 := slotPt ha c (h + 1) fullShare (sums D (h + 1) c)

/-- The duties of a role's round. -/
def roleDuties : Role → ℕ → Finset ℕ
  | .bar, r => if r = 0 then {0, 1} else ∅
  | .xc, r => if r < 7 then {0} else ∅
  | .ac, r => if r = 0 then Finset.range 8 else ∅
  | .xs j, r => if 2 * r + j < 7 then {0} else ∅
  | .xr j, r => if 2 * r + 1 - j < 7 then {0} else ∅
  | .as j, r => if 2 * r + j < 8 then {0} else ∅
  | .ar j, r => if 2 * r + 1 - j < 8 then {0} else ∅
  | .other, _ => ∅

/-- The units of a role's duties. -/
def roleAmount : Role → ℕ
  | .xs _ => Nx | .xr _ => Nx | .as _ => Na | .ar _ => Na | _ => 1

/-- The payloads of a role's duties. -/
def rolePay (c : Dev nD) : Role → ℕ → ℕ → sProp 𝕄
  | .bar, _, d => barPay c d
  | .xc, r, _ => xcPay c r
  | .ac, _, d => acPay c d
  | .xs j, r, _ => xsPay D c (2 * r + j)
  | .xr j, r, _ => xrPay D c (2 * r + 1 - j)
  | .as j, r, _ => asPay c (2 * r + j)
  | .ar j, r, _ => arPay D c (2 * r + 1 - j)
  | .other, _, _ => iprop(emp)

theorem Nx_pos : 0 < Nx := View.dmaCredit_pos _ (by decide)
theorem Na_pos : 0 < Na := View.dmaCredit_pos _ (by decide)

/-- The schedule of every cell of the ring. -/
def Rd : Rounds.Schedule (GSem nD τ sig) ℕ 𝕄 where
  duties g r := if g.1.2 = .tc then roleDuties (role g.2) r else ∅
  unitless _ := False
  amount g _ _ := roleAmount (role g.2)
  payload g r d := rolePay D g.1.1 (role g.2) r d
  amount_pos g _ _ _ := by
    show 0 < roleAmount (role g.2)
    cases role g.2 <;> first | exact Nx_pos | exact Na_pos | exact Nat.one_pos

instance Rd_storable (g : GSem nD τ sig) (r : ℕ) (d : ℕ) : BI.Storable (upEmb : UEmb _ 𝕄) ((Rd D).payload g r d) := by
  show BI.Storable upEmb (rolePay D g.1.1 (role g.2) r d)
  cases role g.2 <;> unfold rolePay <;> simp only [barPay, xcPay, acPay, xsPay, xrPay, asPay, arPay] <;> (repeat' split) <;> infer_instance

section Lemmas

variable (c : Dev nD)

theorem duties_bar : (Rd D).duties (cell c barS) 0 = {0, 1} := by
  dsimp only [Rd]; rw [if_pos rfl, role_bar]; rfl
theorem duties_xc {h : ℕ} (hh : h < 7) : (Rd D).duties (cell c xcS) h = {0} := by
  dsimp only [Rd]; rw [if_pos rfl, role_xc]; exact if_pos hh
theorem duties_ac : (Rd D).duties (cell c acS) 0 = Finset.range 8 := by
  dsimp only [Rd]; rw [if_pos rfl, role_ac]; simp only [roleDuties, if_true]
theorem duties_xs {h : ℕ} (hh : h < 7) : (Rd D).duties (cell c (xsS h)) (h / 2) = {0} := by
  dsimp only [Rd]; rw [if_pos rfl, role_xs]; exact if_pos (by omega)
theorem duties_xr {h : ℕ} (hh : h < 7) : (Rd D).duties (cell c (xrS (h + 1))) (h / 2) = {0} := by
  dsimp only [Rd]; rw [if_pos rfl, role_xr]; exact if_pos (by omega)
theorem duties_as {h : ℕ} (hh : h < 8) : (Rd D).duties (cell c (asS h)) (h / 2) = {0} := by
  dsimp only [Rd]; rw [if_pos rfl, role_as]; exact if_pos (by omega)
theorem duties_ar {h : ℕ} (hh : h < 8) : (Rd D).duties (cell c (arS (h + 1))) (h / 2) = {0} := by
  dsimp only [Rd]; rw [if_pos rfl, role_ar]; exact if_pos (by omega)

theorem amount_bar (r d : ℕ) : (Rd D).amount (cell c barS) r d = 1 := by dsimp only [Rd]; rw [role_bar]; rfl
theorem amount_xc (r d : ℕ) : (Rd D).amount (cell c xcS) r d = 1 := by dsimp only [Rd]; rw [role_xc]; rfl
theorem amount_ac (r d : ℕ) : (Rd D).amount (cell c acS) r d = 1 := by dsimp only [Rd]; rw [role_ac]; rfl
theorem amount_xs (h r d : ℕ) : (Rd D).amount (cell c (xsS h)) r d = Nx := by dsimp only [Rd]; rw [role_xs]; rfl
theorem amount_xr (h r d : ℕ) : (Rd D).amount (cell c (xrS h)) r d = Nx := by dsimp only [Rd]; rw [role_xr]; rfl
theorem amount_as (h r d : ℕ) : (Rd D).amount (cell c (asS h)) r d = Na := by dsimp only [Rd]; rw [role_as]; rfl
theorem amount_ar (h r d : ℕ) : (Rd D).amount (cell c (arS h)) r d = Na := by dsimp only [Rd]; rw [role_ar]; rfl

theorem payload_bar (r d : ℕ) : (Rd D).payload (cell c barS) r d = barPay c d := by dsimp only [Rd]; rw [role_bar]; rfl
theorem payload_xc (r d : ℕ) : (Rd D).payload (cell c xcS) r d = xcPay c r := by dsimp only [Rd]; rw [role_xc]; rfl
theorem payload_ac (r d : ℕ) : (Rd D).payload (cell c acS) r d = acPay c d := by dsimp only [Rd]; rw [role_ac]; rfl
theorem payload_xs (h d : ℕ) : (Rd D).payload (cell c (xsS h)) (h / 2) d = xsPay D c h := by
  dsimp only [Rd]; rw [role_xs]; dsimp only [rolePay]; rw [show 2 * (h / 2) + h % 2 = h by omega]
theorem payload_xr (h d : ℕ) : (Rd D).payload (cell c (xrS (h + 1))) (h / 2) d = xrPay D c h := by
  dsimp only [Rd]; rw [role_xr]; dsimp only [rolePay]; rw [show 2 * (h / 2) + 1 - (h + 1) % 2 = h by omega]
theorem payload_as (h d : ℕ) : (Rd D).payload (cell c (asS h)) (h / 2) d = asPay c h := by
  dsimp only [Rd]; rw [role_as]; dsimp only [rolePay]; rw [show 2 * (h / 2) + h % 2 = h by omega]
theorem payload_ar (h d : ℕ) : (Rd D).payload (cell c (arS (h + 1))) (h / 2) d = arPay D c h := by
  dsimp only [Rd]; rw [role_ar]; dsimp only [rolePay]; rw [show 2 * (h / 2) + 1 - (h + 1) % 2 = h by omega]

theorem expect_bar : (Rd D).expect (cell c barS) 0 = 2 := by
  unfold Schedule.expect Schedule.amountOf; rw [duties_bar, Finset.sum_congr rfl fun d _ => amount_bar D c 0 d]; rfl
theorem expect_ac : (Rd D).expect (cell c acS) 0 = 8 := by
  unfold Schedule.expect Schedule.amountOf; rw [duties_ac, Finset.sum_congr rfl fun d _ => amount_ac D c 0 d]; rfl
theorem expect_xc {h : ℕ} (hh : h < 7) : (Rd D).expect (cell c xcS) h = 1 := by
  unfold Schedule.expect Schedule.amountOf; rw [duties_xc D c hh, Finset.sum_singleton, amount_xc]
theorem expect_xs {h : ℕ} (hh : h < 7) : (Rd D).expect (cell c (xsS h)) (h / 2) = Nx := by
  unfold Schedule.expect Schedule.amountOf; rw [duties_xs D c hh, Finset.sum_singleton, amount_xs]
theorem expect_xr {h : ℕ} (hh : h < 7) : (Rd D).expect (cell c (xrS (h + 1))) (h / 2) = Nx := by
  unfold Schedule.expect Schedule.amountOf; rw [duties_xr D c hh, Finset.sum_singleton, amount_xr]
theorem expect_as {h : ℕ} (hh : h < 8) : (Rd D).expect (cell c (asS h)) (h / 2) = Na := by
  unfold Schedule.expect Schedule.amountOf; rw [duties_as D c hh, Finset.sum_singleton, amount_as]
theorem expect_ar {h : ℕ} (hh : h < 8) : (Rd D).expect (cell c (arS (h + 1))) (h / 2) = Na := by
  unfold Schedule.expect Schedule.amountOf; rw [duties_ar D c hh, Finset.sum_singleton, amount_ar]

theorem rest_bar : bigSep ((Rd D).duties (cell c barS) 0 \ ∅) (fun d => (Rd D).payload (cell c barS) 0 d)
    ⊢ iprop(reached EC (cell (prv c) xcS) 0 ∗ reached EC (cell (prv c) acS) 0) := by
  rw [Finset.sdiff_empty, duties_bar, bigSep_insert (by decide), payload_bar]
  unfold barPay; rw [if_pos rfl]
  exact sep_elim_left
theorem rest_xc {h : ℕ} (hh : h < 7) : bigSep ((Rd D).duties (cell c xcS) h \ ∅) (fun d => (Rd D).payload (cell c xcS) h d) = xcPay c h := by
  rw [Finset.sdiff_empty, duties_xc D c hh, bigSep_singleton, payload_xc]
theorem rest_xs {h : ℕ} (hh : h < 7) :
    bigSep ((Rd D).duties (cell c (xsS h)) (h / 2) \ ∅) (fun d => (Rd D).payload (cell c (xsS h)) (h / 2) d) = xsPay D c h := by
  rw [Finset.sdiff_empty, duties_xs D c hh, bigSep_singleton, payload_xs]
theorem rest_xr {h : ℕ} (hh : h < 7) :
    bigSep ((Rd D).duties (cell c (xrS (h + 1))) (h / 2) \ ∅) (fun d => (Rd D).payload (cell c (xrS (h + 1))) (h / 2) d) = xrPay D c h := by
  rw [Finset.sdiff_empty, duties_xr D c hh, bigSep_singleton, payload_xr]
theorem rest_as {h : ℕ} (hh : h < 8) :
    bigSep ((Rd D).duties (cell c (asS h)) (h / 2) \ ∅) (fun d => (Rd D).payload (cell c (asS h)) (h / 2) d) = asPay c h := by
  rw [Finset.sdiff_empty, duties_as D c hh, bigSep_singleton, payload_as]
theorem rest_ar {h : ℕ} (hh : h < 8) :
    bigSep ((Rd D).duties (cell c (arS (h + 1))) (h / 2) \ ∅) (fun d => (Rd D).payload (cell c (arS (h + 1))) (h / 2) d) = arPay D c h := by
  rw [Finset.sdiff_empty, duties_ar D c hh, bigSep_singleton, payload_ar]

/-- No duty is left once a cell's last round is over. -/
theorem later_bar : ∀ r, 1 ≤ r → (Rd D).duties (cell c barS) r = ∅ := fun r hr => by
  dsimp only [Rd]; rw [if_pos rfl, role_bar]; exact if_neg (by omega)
@[inherit_doc later_bar] theorem later_xc : ∀ r, 7 ≤ r → (Rd D).duties (cell c xcS) r = ∅ := fun r hr => by
  dsimp only [Rd]; rw [if_pos rfl, role_xc]; exact if_neg (by omega)
@[inherit_doc later_bar] theorem later_ac : ∀ r, 1 ≤ r → (Rd D).duties (cell c acS) r = ∅ := fun r hr => by
  dsimp only [Rd]; rw [if_pos rfl, role_ac]; exact if_neg (by omega)
@[inherit_doc later_bar] theorem later_xs (j : ℕ) : ∀ r, (8 - j % 2) / 2 ≤ r → (Rd D).duties (cell c (xsS j)) r = ∅ := fun r hr => by
  dsimp only [Rd]; rw [if_pos rfl, role_xs]; exact if_neg (by omega)
@[inherit_doc later_bar] theorem later_xr (j : ℕ) : ∀ r, (7 + j % 2) / 2 ≤ r → (Rd D).duties (cell c (xrS j)) r = ∅ := fun r hr => by
  dsimp only [Rd]; rw [if_pos rfl, role_xr]; exact if_neg (by omega)
@[inherit_doc later_bar] theorem later_as (j : ℕ) : ∀ r, 4 ≤ r → (Rd D).duties (cell c (asS j)) r = ∅ := fun r hr => by
  dsimp only [Rd]; rw [if_pos rfl, role_as]; exact if_neg (by omega)
@[inherit_doc later_bar] theorem later_ar (j : ℕ) : ∀ r, 4 ≤ r → (Rd D).duties (cell c (arS j)) r = ∅ := fun r hr => by
  dsimp only [Rd]; rw [if_pos rfl, role_ar]; exact if_neg (by omega)

end Lemmas

end Cert.KernelIdeal.Pass

end
-- ==== Proof.Dues.lean ====
/-
  What each device owes and holds of the ring's traffic: the list of the payments it makes, hop by hop, with the index each is
  owed at; the credits of its own cells; the tokens of the duties it pays.
-/
module

public import proofs.«01_k».proof.Proof.Protocol
public import Idealize.ShloMosaic.Lib.Pipeline.BigSepL
public import Idealize.ShloMosaic.Lib.Pipeline.TalkSched

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.SiteBlocks (L lv mem_L' mayWait_of)
open Cert.KernelIdeal Cert.KernelIdeal.Gen

variable {F : FTy → Type} [FloatOps F]

local notation "𝕄" => MT nD τ sig ℕ (Elt F) ℕ UU ℕ

/-! ## Lists over the hops that are left -/

/-- The resources `Φ` of the hops from `h` up to `n`. -/
def left {M : Type} [URA M] (h n : ℕ) (Φ : ℕ → sProp M) : sProp M := bigSepL (List.range' h (n - h)) Φ

theorem left_pop {M : Type} [URA M] {h n : ℕ} (hh : h < n) (Φ : ℕ → sProp M) : left h n Φ = iprop(Φ h ∗ left (h + 1) n Φ) := by
  unfold left
  rw [show n - h = (n - (h + 1)) + 1 by omega, List.range'_succ, bigSepL_cons]; rfl
theorem left_nil {M : Type} [URA M] {h n : ℕ} (hh : n ≤ h) (Φ : ℕ → sProp M) : left h n Φ = iprop(emp) := by
  unfold left
  rw [show n - h = 0 by omega]; rfl
theorem left_sep {M : Type} [URA M] (l : List ℕ) (Φ Ψ : ℕ → sProp M) :
    bigSepL l (fun i => iprop(Φ i ∗ Ψ i)) = iprop(bigSepL l Φ ∗ bigSepL l Ψ) := by
  have h4 (A B C E : sProp M) : iprop((A ∗ B) ∗ C ∗ E) = (iprop((A ∗ C) ∗ B ∗ E) : sProp M) := by
    have h5 (A B C E : sProp M) : iprop((A ∗ B) ∗ C ∗ E) ⊢ (iprop((A ∗ C) ∗ B ∗ E) : sProp M) := by
      iintro ⟨⟨H1, H2⟩, H3, H4⟩
      isplitl [H1 H3]
      · isplitl [H1] <;> iassumption
      · isplitl [H2] <;> iassumption
    exact Entails.antisymm (h5 A B C E) (h5 A C B E)
  induction l with
  | nil =>
    have h1 : (iprop(emp) : sProp M) ⊢ iprop(emp ∗ emp) := by iintro -; isplitl [] <;> iempintro
    have h2 : (iprop(emp ∗ emp) : sProp M) ⊢ iprop(emp) := by iintro -; iempintro
    exact Entails.antisymm h1 h2
  | cons a l ih =>
    rw [bigSepL_cons, bigSepL_cons, bigSepL_cons, ih]
    exact h4 _ _ _ _

/-! ## Payments -/

/-- The kinds of payment: the barrier to the previous and to the next device, a row credit, a sum credit, a send of rows and its
    arrival, a send of a sum and its arrival. -/
inductive Pk where
  | barP | barN | xc | ac | xs | xr | as | ar
  deriving DecidableEq

/-- Where a payment goes. -/
def Pk.dest : Pk → Dev nD → Dev nD
  | .barP, c => prv c | .barN, c => nxt c | .xc, c => prv c | .ac, c => prv c
  | .xs, c => c | .xr, c => nxt c | .as, c => c | .ar, c => nxt c

/-- The semaphore of a hop's payment. -/
def Pk.sem : Pk → ℕ → SemLoc sig
  | .barP, _ => barS | .barN, _ => barS | .xc, _ => xcS | .ac, _ => acS
  | .xs, h => xsS h | .xr, h => xrS (h + 1) | .as, h => asS h | .ar, h => arS (h + 1)

/-- The round of a hop's payment. -/
def Pk.round : Pk → ℕ → ℕ
  | .barP, _ => 0 | .barN, _ => 0 | .xc, h => h | .ac, _ => 0
  | .xs, h => h / 2 | .xr, h => h / 2 | .as, h => h / 2 | .ar, h => h / 2

/-- The duty of a hop's payment. -/
def Pk.duty : Pk → ℕ → ℕ
  | .barP, _ => 1 | .ac, h => h | _, _ => 0

/-- The index a hop's payment is owed at. -/
def Pk.idx : Pk → ℕ → ℕ
  | .barP, _ => 1 | .barN, _ => 1 | .xc, h => 10 * h + 9 | .ac, h => 10 * h + 14
  | .xs, h => 10 * h + 10 | .xr, h => 10 * h + 11 | .as, h => 10 * h + 15 | .ar, h => 10 * h + 16

/-- The units of a payment. -/
def Pk.units : Pk → ℕ
  | .xs => Nx | .xr => Nx | .as => Na | .ar => Na | _ => 1

/-- A payment of device `c`, as it owes it. -/
def pay (c : Dev nD) (k : Pk × ℕ) : Pay nD τ sig := (cell (k.1.dest c) (k.1.sem k.2), k.1.idx k.2, k.1.units)
/-- The same payment, as device `c` is owed it. -/
def own (c : Dev nD) (k : Pk × ℕ) : Pay nD τ sig := (cell c (k.1.sem k.2), k.1.idx k.2, k.1.units)

/-- What is owed at the end of hop `h`: the row credit of the next hop. -/
def codes4 (h : ℕ) : List (Pk × ℕ) := if h < 6 then [(.xc, h + 1)] else []
/-- What is owed in hop `h` before the sum is sent. -/
def codes3 (h : ℕ) : List (Pk × ℕ) := (.ar, h) :: codes4 h
/-- What is owed in hop `h` before the sum's credit is given. -/
def codes2 (h : ℕ) : List (Pk × ℕ) := (if 0 < h then [(.ac, h)] else []) ++ codes3 h
/-- What is owed at the start of hop `h`. -/
def codes1 (h : ℕ) : List (Pk × ℕ) := (if h < 7 then [(.xr, h)] else []) ++ codes2 h

/-- What is owed from hop `h` on. -/
def codesFrom (h : ℕ) : List (Pk × ℕ) := (List.range' h (8 - h)).flatMap codes1

/-- All payments a device owes at the launch. -/
def codes : List (Pk × ℕ) := [(.barP, 0), (.barN, 0), (.xc, 0), (.ac, 0)] ++ codesFrom 0

/-- A list of payments as owed. -/
def owed (c : Dev nD) (l : List (Pk × ℕ)) : CellTallies nD τ sig ℕ := tallyL (l.map (pay c))

theorem owed_cons (c : Dev nD) (k : Pk × ℕ) (l : List (Pk × ℕ)) : owed c (k :: l) = owed c l + (pay c k).tally := by
  unfold owed; rw [List.map_cons, tallyL, add_comm]
theorem owed_nil (c : Dev nD) : owed c [] = 0 := rfl

theorem codesFrom_pop {h : ℕ} (hh : h < 8) : codesFrom h = codes1 h ++ codesFrom (h + 1) := by
  unfold codesFrom
  rw [show 8 - h = (8 - (h + 1)) + 1 by omega, List.range'_succ, List.flatMap_cons]
theorem codesFrom_end : codesFrom 8 = [] := rfl

/-- The lists in which everything owed lies at an index from `b` up, below 100. -/
def From (b : ℕ) (l : List (Pk × ℕ)) : Prop := ∀ k ∈ l, b ≤ k.1.idx k.2 ∧ k.1.idx k.2 < 100

theorem From.mono {b b' : ℕ} {l : List (Pk × ℕ)} (h : From b l) (hb : b' ≤ b) : From b' l := fun k hk => ⟨hb.trans (h k hk).1, (h k hk).2⟩
theorem From.append {b : ℕ} {l l' : List (Pk × ℕ)} (h : From b l) (h' : From b l') : From b (l ++ l') := fun k hk =>
  (List.mem_append.mp hk).elim (h k) (h' k)
theorem From.nil (b : ℕ) : From b [] := fun _ hk => absurd hk List.not_mem_nil
theorem From.cons {b : ℕ} {k : Pk × ℕ} {l : List (Pk × ℕ)} (hk : b ≤ k.1.idx k.2 ∧ k.1.idx k.2 < 100) (h : From b l) : From b (k :: l) := fun k' hk' => by
  rcases List.mem_cons.mp hk' with rfl | hk'
  exacts [hk, h k' hk']

theorem from4 {h : ℕ} (hh : h < 8) : From (10 * h + 19) (codes4 h) := by
  unfold codes4; split
  · exact .cons ⟨by simp only [Pk.idx]; omega, by simp only [Pk.idx]; omega⟩ (.nil _)
  · exact .nil _
theorem from3 {h : ℕ} (hh : h < 8) : From (10 * h + 16) (codes3 h) :=
  .cons ⟨by simp only [Pk.idx]; omega, by simp only [Pk.idx]; omega⟩ ((from4 hh).mono (by omega))
theorem from2 {h : ℕ} (hh : h < 8) : From (10 * h + 14) (codes2 h) := by
  unfold codes2; split
  · exact .cons ⟨by simp only [Pk.idx]; omega, by simp only [Pk.idx]; omega⟩ ((from3 hh).mono (by omega))
  · exact (from3 hh).mono (by omega)
theorem from1 {h : ℕ} (hh : h < 8) : From (10 * h + 11) (codes1 h) := by
  unfold codes1; split
  · exact .cons ⟨by simp only [Pk.idx]; omega, by simp only [Pk.idx]; omega⟩ ((from2 hh).mono (by omega))
  · exact (from2 hh).mono (by omega)
theorem fromAll (h : ℕ) : From (10 * h + 11) (codesFrom h) := fun k hk => by
  obtain ⟨h', hh', hk⟩ := List.mem_flatMap.mp hk
  have e := List.mem_range'_1.mp hh'
  exact (from1 (h := h') (by omega)).mono (by omega) k hk

/-- A wait at an index below everything that is owed. -/
theorem mayWait_owed {i b : ℕ} (c : Dev nD) (s : SemLoc sig) {l : List (Pk × ℕ)} (hl : From b l) (hi : i < b) (hi' : i < 100) :
    (levAts (L 100) lv : sProp 𝕄) ⊢ MayWait (c : Thread nD τ) s i (owed c l) :=
  mayWait_of hi' c s _ fun g k h => by
    obtain ⟨x, hx, rfl, rfl⟩ := tallyL_pos h
    obtain ⟨y, hy, rfl⟩ := List.mem_map.mp hx
    exact ⟨mem_L' rfl (hl y hy).2, lt_of_lt_of_le hi (hl y hy).1⟩

/-! ## Credits -/

/-- The credit of a payment to device `c`. -/
abbrev credOf (c : Dev nD) (k : Pk) (h : ℕ) : sProp 𝕄 := cred (tallyAt (cell c (k.sem h)) (k.idx h) k.units)

theorem sum_owed (l : List (Pk × ℕ)) : (∑ d : Dev nD, owed d l) = ∑ d : Dev nD, (tallyL (l.map (own d)) : CellTallies nD τ sig ℕ) := by
  induction l with
  | nil => rfl
  | cons k l ih =>
    have h1 : ∀ d : Dev nD, owed d (k :: l) = (pay d k).tally + owed d l := fun d => by rw [owed_cons, add_comm]
    have h2 : ∀ d : Dev nD, (tallyL ((k :: l).map (own d)) : CellTallies nD τ sig ℕ) = (own d k).tally + tallyL (l.map (own d)) := fun d => rfl
    simp only [h1, h2]
    rw [Finset.sum_add_distrib, Finset.sum_add_distrib, ih]
    refine congrArg (· + _) ?_
    obtain ⟨k, h⟩ := k
    cases k
    case barP | xc | ac => exact ring.symm.sum_comp (fun d => (own d _).tally)
    case barN | xr | ar => exact ring.sum_comp (fun d => (own d _).tally)
    all_goals rfl

/-- A device's credit at the launch, payment by payment. -/
theorem launchCred_codes (c : Dev nD) : (Pipeline.launchCred (fun d => owed d codes) c : sProp 𝕄) = bigSepL codes fun k => credOf c k.1 k.2 := by
  rw [Pipeline.launchCred_of_sum _ (fun d => tallyL (codes.map (own d))) (sum_owed codes) (fun d g hg => by
      obtain ⟨i, hi⟩ := DFunLike.ne_iff.mp hg
      obtain ⟨x, hx, rfl, -⟩ := tallyL_pos (Nat.pos_of_ne_zero hi)
      obtain ⟨y, hy, rfl⟩ := List.mem_map.mp hx
      rfl) c, cred_tallyL, bigSepL_map]
  rfl

/-- The same credits, sorted by the hop that spends them. -/
def credCodes : List (Pk × ℕ) :=
  [(.barP, 0), (.barN, 0)] ++ ((List.range 7).flatMap (fun h => [(.xc, h), (.xr, h)]) ++ (List.range 8).flatMap fun h => [(.ac, h), (.ar, h)])
theorem codes_perm : codes.Perm credCodes := by decide
theorem codes_nodup : codes.Nodup := by decide

/-- The credits of hop `h`'s rows; of its sum. -/
abbrev xCred (c : Dev nD) (h : ℕ) : sProp 𝕄 := iprop(credOf c .xc h ∗ credOf c .xr h)
@[inherit_doc xCred] abbrev aCred (c : Dev nD) (h : ℕ) : sProp 𝕄 := iprop(credOf c .ac h ∗ credOf c .ar h)

theorem bigSepL_pairs {M : Type} [URA M] {I : Type} (l : List ℕ) (a b : ℕ → I) (Φ : I → sProp M) :
    bigSepL (l.flatMap fun h => [a h, b h]) Φ = bigSepL l fun h => iprop(Φ (a h) ∗ Φ (b h)) := by
  induction l with
  | nil => rfl
  | cons h l ih =>
    rw [List.flatMap_cons, bigSepL_append, ih]
    exact (bigSepL_cons h l fun h => iprop(Φ (a h) ∗ Φ (b h))).symm

/-- A device's launch credit, hop by hop. -/
theorem launchCred_eq (c : Dev nD) : (Pipeline.launchCred (fun d => owed d codes) c : sProp 𝕄)
    = iprop((credOf c .barP 0 ∗ credOf c .barN 0) ∗ left 0 7 (xCred c) ∗ left 0 8 (aCred c)) := by
  rw [launchCred_codes, bigSepL_perm codes_perm codes_nodup]
  unfold credCodes
  rw [bigSepL_append, bigSepL_append, bigSepL_pairs, bigSepL_pairs, List.range_eq_range', List.range_eq_range']
  rfl

/-! ## Tokens -/

/-- The token of a payment of device `c`. -/
abbrev tokOf (c : Dev nD) (k : Pk) (h : ℕ) : sProp 𝕄 := dutyTok EC (cell (k.dest c) (k.sem h)) (k.round h) (k.duty h)

/-- The payment as a cell, a round and a duty. -/
def tok (c : Dev nD) (k : Pk × ℕ) : GSem nD τ sig × ℕ × ℕ := (cell (k.1.dest c) (k.1.sem k.2), k.1.round k.2, k.1.duty k.2)

/-- All payments with a token. -/
def tokCodes : List (Pk × ℕ) :=
  [(.barP, 0), (.barN, 0)] ++ ([(.xc, 0), (.ac, 0)] ++ ((List.range 7).flatMap (fun h => [(.xs, h), (.xr, h)])
    ++ ((List.range 8).flatMap (fun h => [(.as, h), (.ar, h)]) ++ ((List.range 7).map (fun h => (.ac, h + 1)) ++ (List.range 6).map fun h => (.xc, h + 1)))))

/-- A device's tokens are distinct. -/
theorem tok_nodup (c : Dev nD) : (tokCodes.map (tok c)).Nodup := by
  refine List.Nodup.of_map (fun x : GSem nD τ sig × ℕ × ℕ => (x.1.2, x.2)) ?_
  rw [List.map_map]
  have : (tokCodes.map fun k : Pk × ℕ => (k.1.sem k.2, k.1.round k.2, k.1.duty k.2)).Nodup := by decide
  exact this

/-- Who pays a duty. -/
def payer (x : GSem nD τ sig × ℕ × ℕ) : Dev nD :=
  match role x.1.2 with
  | .bar => if x.2.2 = 0 then prv x.1.1.1 else nxt x.1.1.1
  | .xc => nxt x.1.1.1
  | .ac => nxt x.1.1.1
  | .xr _ => prv x.1.1.1
  | .ar _ => prv x.1.1.1
  | _ => x.1.1.1

theorem payer_tok (c : Dev nD) (k : Pk × ℕ) : payer (tok c k) = c := by
  obtain ⟨k, h⟩ := k
  cases k <;> simp only [payer, tok, Pk.dest, Pk.sem, Pk.duty, Pk.round, role_bar, role_xc, role_ac, role_xs, role_xr, role_as, role_ar, nxt_prv, prv_nxt,
    if_true, one_ne_zero, if_false]

/-- The scoped semaphores of the ring. -/
def ringSems : List (SemLoc sig) := [xcS, acS, xsS 0, xsS 1, xrS 0, xrS 1, asS 0, asS 1, arS 0, arS 1]

/-- The cells and tokens of the one launch. -/
def Fm : Fam nD τ sig ℕ 1 where
  bar := barS
  dorm _ := ringSems.toFinset
  toks c _ := (tokCodes.map (tok c)).toFinset
  semKey _ := 0
  hsem _ _ _ := Subsingleton.elim _ _
  hbar _ := by decide
  tokKey x := (payer x, 0)
  htok c j x hx := by
    obtain ⟨k, -, rfl⟩ := List.mem_map.mp (List.mem_toFinset.mp hx)
    rw [payer_tok, Subsingleton.elim j 0]

/-- The tokens of hop `h`'s send of rows; of its send of the sum; of its sum credit; of the row credit after it. -/
abbrev xTok (c : Dev nD) (h : ℕ) : sProp 𝕄 := iprop(tokOf c .xs h ∗ tokOf c .xr h)
@[inherit_doc xTok] abbrev aTok (c : Dev nD) (h : ℕ) : sProp 𝕄 := iprop(tokOf c .as h ∗ tokOf c .ar h)
@[inherit_doc xTok] abbrev acTok (c : Dev nD) (h : ℕ) : sProp 𝕄 := tokOf c .ac (h + 1)
@[inherit_doc xTok] abbrev xcTok (c : Dev nD) (h : ℕ) : sProp 𝕄 := tokOf c .xc (h + 1)

/-- A device's tokens, hop by hop. -/
theorem toks_eq (c : Dev nD) (j : Fin 1) : (bigSep (Fm.toks c j) fun x => dutyTok EC x.1 x.2.1 x.2.2 : sProp 𝕄)
    = iprop((tokOf c .barP 0 ∗ tokOf c .barN 0) ∗ (tokOf c .xc 0 ∗ tokOf c .ac 0) ∗ left 0 7 (xTok c) ∗ left 0 8 (aTok c)
        ∗ left 0 7 (acTok c) ∗ left 0 6 (xcTok c)) := by
  show bigSep ((tokCodes.map (tok c)).toFinset) _ = _
  rw [bigSep_eq_bigSepL _ (tok_nodup c), bigSepL_map]
  unfold tokCodes
  rw [bigSepL_append, bigSepL_append, bigSepL_append, bigSepL_append, bigSepL_append, bigSepL_pairs, bigSepL_pairs, bigSepL_map, bigSepL_map,
    List.range_eq_range', List.range_eq_range', List.range_eq_range']
  rfl

end Cert.KernelIdeal.Pass

end
-- ==== Proof.Slots.lean ====
/-
  Reading, writing and copying one slot of a two-slot buffer: each rule holds the slot at its contents `fill hM X`, and takes the
  slot's offsets as any term equal to `![h % 2, 0, 0]`.
-/
module

public import proofs.«01_k».proof.Proof.Dues

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Cert.KernelIdeal Cert.KernelIdeal.Gen

variable {F : FTy → Type} [FloatOps F]

local notation "𝕄" => MT nD τ sig ℕ (Elt F) ℕ UU ℕ

/-- No variants. -/
abbrev 𝒱₀ : Variants := Variants.none

variable {M : Memref sig .tc .vmem S2x256x1024 .bf16} (hM : M.IsWhole)

/-- Slot `h % 2` as the rows and columns the copies name. -/
abbrev sq (M : Memref sig .tc .vmem S2x256x1024 .bf16) (h : ℕ) : Memref sig .tc .vmem S256x1024 .bf16 :=
  (M.slice (slotRect h) (fun _ => rfl)).squeeze S256x1024 squeezes_S1x256x1024_S256x1024

omit [FloatOps F] in
theorem sq_set (h : ℕ) : (sq M h).view.set = slotSet M h := View.set_reshape _ _

/-- Two writes of a slot agree where they read the same. -/
theorem congr_slot {h : ℕ} {f g : M.view.ty.Contents (Elt F)} (e : (M.view.slice (slotRect h)).read (Elt F) f = (M.view.slice (slotRect h)).read (Elt F) g) :
    ∀ i ∈ slotSet M h, f i = g i := fun i hi => by
  obtain ⟨x, -, rfl⟩ := Finset.mem_map.mp hi
  exact View.eq_of_read_eq (congrFun e x)

/-- What a filled buffer reads through a slot. -/
theorem read_fill (h : ℕ) (X : Vec F S1x256x1024 .bf16) : (M.view.slice (slotRect h)).read (Elt F) (fill hM X) = X := by
  funext x
  have h1 : (M.view.slice (slotRect h)).read (Elt F) (fill hM X) x = M.view.read (Elt F) (fill hM X) ((slotRect h).emb x) := rfl
  rw [h1, fill, hM.read_unread]
  refine congrArg X (Shape.idx3_ext ?_ ?_ ?_)
  · have := (x 0).isLt; simp only [Shape.size] at this
    have : (x 0).val < 1 := (x 0).isLt
    show 0 = (x 0).val
    omega
  · show 0 + 1 * (x 1).val = (x 1).val; omega
  · show 0 + 1 * (x 2).val = (x 2).val; omega

/-- A slot written whole with `X` is a filled slot. -/
theorem write_slot (h : ℕ) (f : M.view.ty.Contents (Elt F)) (X : Vec F S1x256x1024 .bf16) :
    ∀ i ∈ slotSet M h, (M.view.slice (slotRect h)).write (Elt F) f X Finset.univ i = fill hM X i :=
  congr_slot (by rw [View.read_write_univ, read_fill])

/-- What a copy of slot `h % 2` into slot `h' % 2` leaves there. -/
theorem copy_slot (h h' : ℕ) (f : M.view.ty.Contents (Elt F)) (X : Vec F S1x256x1024 .bf16) :
    ∀ i ∈ slotSet M h', (sq M h').view.write (Elt F) f ((sq M h).view.read (Elt F) (fill hM X)) Finset.univ i = fill hM X i := fun i hi => by
  obtain ⟨x, -, rfl⟩ := Finset.mem_map.mp (by rw [← sq_set] at hi; exact hi)
  refine View.eq_of_read_eq (congrFun ?_ x)
  rw [View.read_write_univ]
  have h1 (j : ℕ) : (sq M j).view.read (Elt F) (fill hM X)
      = fun y => (M.view.slice (slotRect j)).read (Elt F) (fill hM X) (Shape.reshapeEquiv squeezes_S1x256x1024_S256x1024.numel_eq y) := rfl
  rw [h1, h1, read_fill, read_fill]

variable {α : Type} (c : Dev nD)

/-- A load of a slot holding `X` reads `X`. -/
theorem wp_load_slot {Q : α → sProp 𝕄} {h : ℕ} {o : Fin 3 → ℕ} (ho : o = ![h % 2, 0, 0]) {inb : ∀ a, o a + S1x256x1024.size a ≤ S2x256x1024.size a}
    {hl : M.view.LoadsAt (Rect.unit (s := S2x256x1024) o S1x256x1024.size inb).toLoadRect} {q : PosShare TreeShare} {X : Vec F S1x256x1024 .bf16}
    {k : Vec F S1x256x1024 .bf16 → Prog (TpuEff nD τ sig (Elt F) Λ₀ .tc) α} :
    slotPt hM c h q X ⊢ iprop((slotPt hM c h q X -∗ wp frame (wpE (defs₀ (F := F)) 𝒱₀ c none) Set.univ (k X) Q)
      -∗ wp frame (wpE (defs₀ (F := F)) 𝒱₀ c none) Set.univ (.op (.load M (Rect.unit (s := S2x256x1024) o S1x256x1024.size inb).toLoadRect hl) k) Q) := by
  subst ho
  have := wp_load_rect (defs := defs₀ (F := F)) (Γ := .empty) 𝒱₀ (c : Thread nD τ) none Set.univ (m := M) (r := slotRect h) (hl := hl) (k := k) (S := slotSet M h) (q := q)
    (f := fill hM X) (Q := Q) (Finset.Subset.refl _)
  rwa [show (M.access (slotRect h)).read (Elt F) (fill hM X) = X from read_fill hM h X] at this

/-- A load of a slot holding anything. -/
theorem wp_load_any {Q : α → sProp 𝕄} {h : ℕ} {o : Fin 3 → ℕ} (ho : o = ![h % 2, 0, 0]) {inb : ∀ a, o a + S1x256x1024.size a ≤ S2x256x1024.size a}
    {hl : M.view.LoadsAt (Rect.unit (s := S2x256x1024) o S1x256x1024.size inb).toLoadRect}
    {k : Vec F S1x256x1024 .bf16 → Prog (TpuEff nD τ sig (Elt F) Λ₀ .tc) α} :
    slotAny M c h ⊢ iprop((∀ X, slotAny M c h -∗ wp frame (wpE (defs₀ (F := F)) 𝒱₀ c none) Set.univ (k X) Q)
      -∗ wp frame (wpE (defs₀ (F := F)) 𝒱₀ c none) Set.univ (.op (.load M (Rect.unit (s := S2x256x1024) o S1x256x1024.size inb).toLoadRect hl) k) Q) := by
  subst ho
  unfold slotAny slot
  iintro ⟨%f, H⟩ HK
  iapply (wp_load_rect (defs := defs₀ (F := F)) (Γ := .empty) 𝒱₀ (c : Thread nD τ) none Set.univ (m := M) (r := slotRect h) (hl := hl) (k := k) (S := slotSet M h) (q := fullShare)
    (f := f) (Q := Q) (Finset.Subset.refl _)) $$ H
  iintro H
  iapply HK
  iexists f; iexact H

/-- A store of a whole slot. -/
theorem wp_store_slot {Q : α → sProp 𝕄} {h : ℕ} {o : Fin 3 → ℕ} (ho : o = ![h % 2, 0, 0]) {inb : ∀ a, o a + S1x256x1024.size a ≤ S2x256x1024.size a}
    {X : Vec F S1x256x1024 .bf16}
    {hst hm}
    {k : PUnit → Prog (TpuEff nD τ sig (Elt F) Λ₀ .tc) α} :
    slotAny M c h ⊢ iprop((slotPt hM c h fullShare X -∗ wp frame (wpE (defs₀ (F := F)) 𝒱₀ c none) Set.univ (k ⟨⟩) Q)
      -∗ wp frame (wpE (defs₀ (F := F)) 𝒱₀ c none) Set.univ (.op (.store M (Rect.unit (s := S2x256x1024) o S1x256x1024.size inb) X Finset.univ hst hm) k) Q) := by
  subst ho
  have hw (f : M.view.ty.Contents (Elt F)) := wp_store (defs := defs₀ (F := F)) (Γ := .empty) 𝒱₀ (c : Thread nD τ) none Set.univ (m := M) (r := slotRect h) (w := X)
    (Mk := Finset.univ) (hx := hst) (hm := hm) (k := k) (S := slotSet M h) (f := f) (Q := Q) (by rw [View.setOn_univ])
  have he (f : M.view.ty.Contents (Elt F)) : (((M.access (slotRect h)).loc (c : Thread nD τ) ↦[slotSet M h]{fullShare} ((M.access (slotRect h)).write (Elt F) f X Finset.univ)) : sProp 𝕄)
      = slotPt hM c h fullShare X := pointsTo_congr (write_slot hM h f X)
  simp only [he] at hw
  exact exists_elim hw

/-- A filled slot is a slot with some contents. -/
theorem slot_any (h : ℕ) (X : Vec F S1x256x1024 .bf16) : slotPt hM c h fullShare X ⊢ (slotAny M c h : sProp 𝕄) := by
  unfold slotAny slot slotPt
  iintro H; iexists (fill hM X); iexact H

/-- The slot's number matters only by its parity. -/
theorem slotAny_congr {h h' : ℕ} (e : h % 2 = h' % 2) : (slotAny M c h : sProp 𝕄) = slotAny M c h' := by
  have : slotSet M h = slotSet M h' := by
    unfold slotSet
    have h1 : slotRect h = slotRect h' := by unfold slotRect; congr 1; rw [e]
    rw [h1]
  unfold slotAny; rw [this]
@[inherit_doc slotAny_congr]
theorem slotPt_congr {h h' : ℕ} (e : h % 2 = h' % 2) (q : PosShare TreeShare) (X : Vec F S1x256x1024 .bf16) : (slotPt hM c h q X : sProp 𝕄) = slotPt hM c h' q X := by
  have : slotSet M h = slotSet M h' := by
    unfold slotSet
    have h1 : slotRect h = slotRect h' := by unfold slotRect; congr 1; rw [e]
    rw [h1]
  unfold slotPt; rw [this]

/-- A filled slot in two halves. -/
theorem slot_halves (h : ℕ) (X : Vec F S1x256x1024 .bf16) :
    (slotPt hM c h fullShare X : sProp 𝕄) ⊢ iprop(slotPt hM c h fullShare.left X ∗ slotPt hM c h fullShare.right X) := by
  unfold slotPt
  exact (pointsTo_share (PosShare.mem_left_op_right fullShare)).1
theorem slot_whole (h : ℕ) (X : Vec F S1x256x1024 .bf16) :
    iprop(slotPt hM c h fullShare.left X ∗ slotPt hM c h fullShare.right X) ⊢ (slotPt hM c h fullShare X : sProp 𝕄) := by
  unfold slotPt
  exact (pointsTo_share (PosShare.mem_left_op_right fullShare)).2

end Cert.KernelIdeal.Pass

end
-- ==== Proof.Steps.lean ====
/-
  The steps of a hop as rules: the sends of rows and of the sum, the waits, the credits. Each takes the semaphore, the slot and the
  device as any terms equal to those the protocol names, and what is owed as a list of payments.
-/
module

public import proofs.«01_k».proof.Proof.Slots

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Cert.KernelIdeal Cert.KernelIdeal.Gen

variable {F : FTy → Type} [FloatOps F]

local notation "𝕄" => MT nD τ sig ℕ (Elt F) ℕ UU ℕ

variable (D : Dev nD → Inp F)

/-- The invariants of all cells, at some names. -/
def Invs (K : GSem nD τ sig → ℕ) : sProp 𝕄 := Fm.cellInvs EC (Rd D) K
instance Invs_persistent (K : GSem nD τ sig → ℕ) : BI.Persistent (Invs D K) := by unfold Invs; infer_instance

theorem mem_ring (k : Pk) (h : ℕ) (hk : k ≠ .barP) (hk' : k ≠ .barN) : k.sem h ∈ ringSems.toFinset := by
  have e0 (h : ℕ) : h % 2 = 0 → xsS h = xsS 0 ∧ xrS h = xrS 0 ∧ asS h = asS 0 ∧ arS h = arS 0 := fun e => by
    simp only [xsS, xrS, asS, arS, e, and_self]
  have e1 (h : ℕ) : h % 2 = 1 → xsS h = xsS 1 ∧ xrS h = xrS 1 ∧ asS h = asS 1 ∧ arS h = arS 1 := fun e => by
    simp only [xsS, xrS, asS, arS, e, and_self]
  have hall (h : ℕ) : xsS h ∈ ringSems.toFinset ∧ xrS h ∈ ringSems.toFinset ∧ asS h ∈ ringSems.toFinset ∧ arS h ∈ ringSems.toFinset := by
    rcases Nat.mod_two_eq_zero_or_one h with e | e
    · obtain ⟨h1, h2, h3, h4⟩ := e0 h e; rw [h1, h2, h3, h4]; decide
    · obtain ⟨h1, h2, h3, h4⟩ := e1 h e; rw [h1, h2, h3, h4]; decide
  cases k
  · exact absurd rfl hk
  · exact absurd rfl hk'
  · show xcS ∈ _; decide
  · show acS ∈ _; decide
  · exact (hall h).1
  · exact (hall (h + 1)).2.1
  · exact (hall h).2.2.1
  · exact (hall (h + 1)).2.2.2

theorem Invs_ring (K : GSem nD τ sig → ℕ) (c : Dev nD) (k : Pk) (h : ℕ) (hk : k ≠ .barP) (hk' : k ≠ .barN) :
    Invs D K ⊢ cellInv EC (Rd D) (K (cell c (k.sem h))) (cell c (k.sem h)) := Fm.cellInvs_dorm EC (Rd D) K c (j := 0) (mem_ring k h hk hk')
theorem Invs_bar (K : GSem nD τ sig → ℕ) (c : Dev nD) : Invs D K ⊢ cellInv EC (Rd D) (K (cell c barS)) (cell c barS) := Fm.cellInvs_bar EC (Rd D) K c

/-- What device `c` owes, whatever it has waited for. -/
def ow (c : Dev nD) (l : List (Pk × ℕ)) : sProp 𝕄 := iprop(∃ W, owes (c : Thread nD τ) (owed c l) W)

variable {α : Type} (K : GSem nD τ sig → ℕ) (c : Dev nD)

/-- The weakest precondition of a program on device `c`. -/
abbrev Run (p : Prog (TpuEff nD τ sig (Elt F) Λ₀ .tc) α) (Q : α → sProp 𝕄) : sProp 𝕄 := wp frame (wpE (defs₀ (F := F)) 𝒱₀ c none) Set.univ p Q

/-- A program that is over. -/
theorem run_ret {Q : α → sProp 𝕄} (a : α) : Q a ⊢ Run c (.ret a) Q := le_wp_ret _ _ _ a Q

/-- A program in two steps, through what holds between them. -/
theorem run_bind {β : Type} {P : sProp 𝕄} {Q : β → sProp 𝕄} (Mid : α → sProp 𝕄) {p : Prog (TpuEff nD τ sig (Elt F) Λ₀ .tc) α}
    {k : α → Prog (TpuEff nD τ sig (Elt F) Λ₀ .tc) β} (hp : P ⊢ Run c p Mid) (hk : ∀ a, Mid a ⊢ Run c (k a) Q) : P ⊢ Run c (p >>= k) Q := by
  show P ⊢ wp _ _ _ _ _
  rw [wp_bind]
  exact hp.trans (wp_mono _ _ _ hk)

/-- A credit given: the unit is paid with its payload. -/
theorem wp_credit {Q : α → sProp 𝕄} (k : Pk) (h : ℕ) (l : List (Pk × ℕ)) {d : Dev nD} {s : Sem sig} {n : ℤ} (hd : d = k.dest c) (hs : SemLoc.reg s = k.sem h)
    (hn : n = 1) (hu : k.units = 1) (hmem : k.duty h ∈ (Rd D).duties (cell (k.dest c) (k.sem h)) (k.round h))
    (hamt : (Rd D).amount (cell (k.dest c) (k.sem h)) (k.round h) (k.duty h) = 1)
    {P : sProp 𝕄} (hP : (Rd D).payload (cell (k.dest c) (k.sem h)) (k.round h) (k.duty h) = P)
    {kt : PUnit → Prog (TpuEff nD τ sig (Elt F) Λ₀ .tc) α} :
    iprop(cellInv EC (Rd D) (K (cell (k.dest c) (k.sem h))) (cell (k.dest c) (k.sem h)) ∗ ow c ((k, h) :: l) ∗ tokOf c k h
        ∗ P ∗ reached EC (cell (k.dest c) (k.sem h)) (k.round h))
      ⊢ iprop((ow c l -∗ Run c (kt ⟨⟩) Q) -∗ Run c (.op (.semSignal (d, .tc) s n) kt) Q) := by
  subst hd hn hP
  unfold ow tokOf
  rw [owed_cons]
  unfold pay TalkSites.Pay.tally
  dsimp only
  rw [hu, ← hs] at *
  iintro ⟨HI, ⟨%W, HO⟩, Ht, HP, Hr⟩ HK
  iapply (Rounds.wp_signal 𝒱₀ EC (Rd D) (c : Thread nD τ) none (dst := (k.dest c : Thread nD τ)) (sem := s) (r := k.round h) (d := k.duty h) (k' := 1)
    (κ := K (cell (k.dest c) (.reg s))) hmem hamt (k.idx h) (owed c l) rfl) $$ [HI HO Ht HP Hr]
  · isplitl [HI]; · iexact HI
    isplitl [HO]; · iexact HO
    isplitl [Ht]; · iexact Ht
    isplitl [HP] <;> iassumption
  iintro HO
  iapply HK; iexists W; iexact HO

/-- A wait for the whole of a round that one payment fills. -/
theorem wp_round {Q : α → sProp 𝕄} (k : Pk) (h : ℕ) (l : List (Pk × ℕ)) {b : ℕ} (hl : From b l) (hb : k.idx h < b) (hb' : k.idx h < 100)
    {w : TpuEff nD τ sig (Elt F) Λ₀ .tc PUnit} (hw : ∀ Kt : PUnit → sProp 𝕄, wpE (defs₀ (F := F)) 𝒱₀ (c : Thread nD τ) none Set.univ w Kt
      = waitSpec (c : Thread nD τ) Set.univ (k.sem h) k.units Kt)
    (hexp : (Rd D).expect (cell c (k.sem h)) (k.round h) = k.units)
    {P : sProp 𝕄} (hP : bigSep ((Rd D).duties (cell c (k.sem h)) (k.round h) \ ∅) (fun d => (Rd D).payload (cell c (k.sem h)) (k.round h) d) = P)
    {kt : PUnit → Prog (TpuEff nD τ sig (Elt F) Λ₀ .tc) α} :
    iprop(cellInv EC (Rd D) (K (cell c (k.sem h))) (cell c (k.sem h)) ∗ levAts (L 100) lv ∗ credOf c k h ∗ ow c l ∗ atPos EC (cell c (k.sem h)) (k.round h) ∅ 0)
      ⊢ iprop((ow c l ∗ atPos EC (cell c (k.sem h)) (k.round h + 1) ∅ 0 ∗ reached EC (cell c (k.sem h)) (k.round h + 1) ∗ P -∗ Run c (kt ⟨⟩) Q)
          -∗ Run c (.op w kt) Q) := by
  subst hP
  unfold ow
  iintro ⟨HI, Hlev, Hc, ⟨%W, HO⟩, Hat⟩ HK
  iapply (Rounds.wp_wait_rest_token 𝒱₀ EC (Rd D) (c : Thread nD τ) none (κ := K (cell c (k.sem h))) (sm := k.sem h) (k' := k.units) hw (Set.mem_univ _) (k.idx h)
    (O := owed c l) (W := W) (R := k.round h) (m := 0) (T := ∅) ((Nat.zero_add _).trans hexp.symm)) $$ [HI Hlev Hc HO Hat]
  · isplitl [HI]; · iexact HI
    isplitl [Hc]; · iexact Hc
    isplitl [HO]; · iexact HO
    isplitl [Hlev]; · iapply (mayWait_owed c (k.sem h) hl hb hb'); iexact Hlev
    iexact Hat
  iintro ⟨HO, H⟩
  iapply HK
  isplitl [HO]; · iexists _; iexact HO
  iexact H

/-- A wait for one more unit of the sum credit: enough payments are in that one is for hop `h` or a later one. -/
theorem wp_sum_credit {Q : α → sProp 𝕄} {h : ℕ} (hh : h < 8) (S : Finset ℕ) (l : List (Pk × ℕ)) {b : ℕ} (hl : From b l) (hb : 10 * h + 14 < b)
    {s : Sem sig} (hs : SemLoc.reg s = acS) {n : ℤ} (hn : n = 1)
    {kt : PUnit → Prog (TpuEff nD τ sig (Elt F) Λ₀ .tc) α} :
    iprop(cellInv EC (Rd D) (K (cell c acS)) (cell c acS) ∗ levAts (L 100) lv ∗ credOf c .ac h ∗ ow c l ∗ atPos EC (cell c acS) 0 S h)
      ⊢ iprop((∀ S' : Finset ℕ, ⌜S ⊆ S' ∧ S' ⊆ Finset.range 8 ∧ h + 1 ≤ S'.card⌝ ∗ ow c l ∗ atPos EC (cell c acS) 0 S' (h + 1)
            ∗ bigSep (S' \ S) (fun d => acPay c d) -∗ Run c (kt ⟨⟩) Q)
          -∗ Run c (.op (.semWait s n) kt) Q) := by
  obtain rfl : s = 1 := SemLoc.reg.inj hs
  subst hn
  unfold ow
  iintro ⟨HI, Hlev, Hc, ⟨%W, HO⟩, Hat⟩ HK
  iapply (Rounds.wp_wait 𝒱₀ EC (Rd D) (c : Thread nD τ) none (κ := K (cell c acS)) (sm := acS) (k' := 1) (wpE_semWait_eq 𝒱₀ (c : Thread nD τ) none Set.univ) (Set.mem_univ _)
    (cr := Finsupp.single (10 * h + 14) 1) (O := owed c l) (W := W) {(acS, 10 * h + 14)} (R := 0) (m := h) (T := S) (by rw [Util.total_single])
    (image_single_subset acS (10 * h + 14) 1)) $$ [HI Hlev Hc HO Hat]
  · isplitl [HI]; · iexact HI
    isplitl [Hc]; · iexact Hc
    isplitl [HO]; · iexact HO
    isplitl [Hlev]; · iapply (mayWait_owed c acS hl hb (by omega)); iexact Hlev
    iexact Hat
  iintro %S' ⟨%hS, HO, Hat, HP⟩
  rw [expect_ac, duties_ac] at hS
  iapply HK $$ %S'
  isplitr
  · ipureintro
    refine ⟨hS.1, hS.2.1, ?_⟩
    have h1 := Finset.card_sdiff_add_card_eq_card hS.2.1
    rw [Finset.card_range] at h1
    omega
  isplitl [HO]; · iexists _; iexact HO
  isplitl [Hat]; · iexact Hat
  have e : (bigSep (S' \ S) fun d => (Rd D).payload (cell c acS) 0 d) = (bigSep (S' \ S) fun d => acPay c d : sProp 𝕄) := bigSep_congr fun d _ => payload_ac D c 0 d
  rw [← e]; iexact HP

/-- The send of the rows of hop `h`. -/
theorem wp_send_rows {Q : α → sProp 𝕄} {h : ℕ} (hh : h < 7) (l : List (Pk × ℕ)) {o o' : Fin 3 → ℕ} (ho : o = ![h % 2, 0, 0]) (ho' : o' = ![(h + 1) % 2, 0, 0])
    {inb : ∀ a, o a + S1x256x1024.size a ≤ S2x256x1024.size a} {inb' : ∀ a, o' a + S1x256x1024.size a ≤ S2x256x1024.size a}
    {sS sR : DmaSem sig} (hS : SemLoc.dma sS = xsS h) (hR : SemLoc.dma sR = xrS (h + 1)) {d : Dev nD} (hd : d = nxt c)
    {hsc hsrc hdst hsem} {kt : PUnit → Prog (TpuEff nD τ sig (Elt F) Λ₀ .tc) α} :
    iprop(Invs D K ∗ slotPt hx c h fullShare.left (rows D h c) ∗ slotAny xM (nxt c) (h + 1) ∗ ow c ((.xr, h) :: l)
        ∗ tokOf c .xs h ∗ reached EC (cell c (xsS h)) (h / 2) ∗ tokOf c .xr h ∗ reached EC (cell (nxt c) (xrS (h + 1))) (h / 2) ∗ reached EC (cell c xcS) (h + 1))
      ⊢ iprop((credOf c .xs h ∗ ow c l -∗ Run c (kt ⟨⟩) Q)
          -∗ Run c (.op (.enqueueDma ((xM.slice (Rect.unit (s := S2x256x1024) o S1x256x1024.size inb) (fun _ => rfl)).squeeze S256x1024 squeezes_S1x256x1024_S256x1024)
            (.remote (Dev.tc d) ((xM.slice (Rect.unit (s := S2x256x1024) o' S1x256x1024.size inb') (fun _ => rfl)).squeeze S256x1024 squeezes_S1x256x1024_S256x1024) (.dma sS) hsc)
            (.dma sR) hsrc hdst hsem) kt) Q) := by
  subst ho ho' hd
  obtain rfl := SemLoc.dma.inj hS
  obtain rfl := SemLoc.dma.inj hR
  unfold ow slotAny slot
  rw [owed_cons]
  iintro ⟨#HI, Hs, ⟨%fd, Hd⟩, ⟨%W, HO⟩, Ht, Hr, Ht', Hr', Hx⟩ HK
  ihave HI1 := (Invs_ring D K c .xs h (by decide) (by decide)) $$ HI
  ihave HI2 := (Invs_ring D K (nxt c) .xr h (by decide) (by decide)) $$ HI
  iapply (Rounds.wp_send_pointsTo_with 𝒱₀ EC (Rd D) (c : Thread nD τ) none (c' := (nxt c : Thread nD τ)) (src := sq xM h) (dst := sq xM (h + 1))
    (sS := xsS h) (sem := xrS (h + 1)) (q := fullShare.left) (fs := fill hx (rows D h c)) (fd := fd) (F := iprop(reached EC (cell c xcS) (h + 1)))
    (κ₁ := K (cell c (xsS h))) (κ₂ := K (cell (nxt c) (xrS (h + 1)))) (r₁ := h / 2) (r₂ := h / 2) (d₁ := 0) (d₂ := 0)
    (by rw [duties_xs D c hh]; exact Finset.mem_singleton_self _) (by rw [duties_xr D (nxt c) hh]; exact Finset.mem_singleton_self _)
    (10 * h + 11) (10 * h + 10) Nx rfl (amount_xs D c h _ _) (amount_xr D (nxt c) (h + 1) _ _) (owed c l) rfl (W := W)
    (by rw [payload_xs, sq_set]; exact .rfl)
    (by
      rw [payload_xr, sq_set, pointsTo_congr (copy_slot hx h (h + 1) fd (rows D h c))]
      unfold xrPay
      rw [prv_nxt, show rows D (h + 1) (nxt c) = rows D h c by rw [rows, prv_nxt]]
      exact .rfl)) $$ [HI1 HI2 Hs Hd HO Ht Hr Ht' Hr' Hx]
  · isplitl [HI1]; · iexact HI1
    isplitl [HI2]; · iexact HI2
    isplitl [Hs]; · rw [sq_set]; unfold slotPt; iexact Hs
    isplitl [Hd Hx]
    · isplitl [Hd]; · rw [sq_set]; iexact Hd
      iexact Hx
    isplitl [HO]; · iexact HO
    isplitl [Ht]; · iexact Ht
    isplitl [Hr]; · iexact Hr
    isplitl [Ht']; · iexact Ht'
    iexact Hr'
  iintro ⟨Hc, HO⟩
  iapply HK
  isplitl [Hc]; · iexact Hc
  iexists W; iexact HO

/-- The send of the sum of hop `h`. -/
theorem wp_send_sum {Q : α → sProp 𝕄} {h : ℕ} (hh : h < 8) (l : List (Pk × ℕ)) {o o' : Fin 3 → ℕ} (ho : o = ![h % 2, 0, 0]) (ho' : o' = ![(h + 1) % 2, 0, 0])
    {inb : ∀ a, o a + S1x256x1024.size a ≤ S2x256x1024.size a} {inb' : ∀ a, o' a + S1x256x1024.size a ≤ S2x256x1024.size a}
    {sS sR : DmaSem sig} (hS : SemLoc.dma sS = asS h) (hR : SemLoc.dma sR = arS (h + 1)) {d : Dev nD} (hd : d = nxt c)
    {hsc hsrc hdst hsem} {kt : PUnit → Prog (TpuEff nD τ sig (Elt F) Λ₀ .tc) α} :
    iprop(Invs D K ∗ slotPt ha c h fullShare (sums D (h + 1) (nxt c)) ∗ slotAny aM (nxt c) (h + 1) ∗ ow c ((.ar, h) :: l)
        ∗ tokOf c .as h ∗ reached EC (cell c (asS h)) (h / 2) ∗ tokOf c .ar h ∗ reached EC (cell (nxt c) (arS (h + 1))) (h / 2))
      ⊢ iprop((credOf c .as h ∗ ow c l -∗ Run c (kt ⟨⟩) Q)
          -∗ Run c (.op (.enqueueDma ((aM.slice (Rect.unit (s := S2x256x1024) o S1x256x1024.size inb) (fun _ => rfl)).squeeze S256x1024 squeezes_S1x256x1024_S256x1024)
            (.remote (Dev.tc d) ((aM.slice (Rect.unit (s := S2x256x1024) o' S1x256x1024.size inb') (fun _ => rfl)).squeeze S256x1024 squeezes_S1x256x1024_S256x1024) (.dma sS) hsc)
            (.dma sR) hsrc hdst hsem) kt) Q) := by
  subst ho ho' hd
  obtain rfl := SemLoc.dma.inj hS
  obtain rfl := SemLoc.dma.inj hR
  unfold ow slotAny slot
  rw [owed_cons]
  iintro ⟨#HI, Hs, ⟨%fd, Hd⟩, ⟨%W, HO⟩, Ht, Hr, Ht', Hr'⟩ HK
  ihave HI1 := (Invs_ring D K c .as h (by decide) (by decide)) $$ HI
  ihave HI2 := (Invs_ring D K (nxt c) .ar h (by decide) (by decide)) $$ HI
  iapply (Rounds.wp_send_pointsTo 𝒱₀ EC (Rd D) (c : Thread nD τ) none (c' := (nxt c : Thread nD τ)) (src := sq aM h) (dst := sq aM (h + 1))
    (sS := asS h) (sem := arS (h + 1)) (q := fullShare) (fs := fill ha (sums D (h + 1) (nxt c))) (fd := fd)
    (κ₁ := K (cell c (asS h))) (κ₂ := K (cell (nxt c) (arS (h + 1)))) (r₁ := h / 2) (r₂ := h / 2) (d₁ := 0) (d₂ := 0)
    (by rw [duties_as D c hh]; exact Finset.mem_singleton_self _) (by rw [duties_ar D (nxt c) hh]; exact Finset.mem_singleton_self _)
    (10 * h + 16) (10 * h + 15) Na rfl (amount_as D c h _ _) (amount_ar D (nxt c) (h + 1) _ _) (owed c l) rfl (W := W)
    (by rw [payload_as, sq_set]; exact slot_any ha c h _)
    (by
      rw [payload_ar, sq_set, pointsTo_congr (copy_slot ha h (h + 1) fd (sums D (h + 1) (nxt c)))]
      exact .rfl)) $$ [HI1 HI2 Hs Hd HO Ht Hr Ht' Hr']
  · isplitl [HI1]; · iexact HI1
    isplitl [HI2]; · iexact HI2
    isplitl [Hs]; · rw [sq_set]; unfold slotPt; iexact Hs
    isplitl [Hd]; · rw [sq_set]; iexact Hd
    isplitl [HO]; · iexact HO
    isplitl [Ht]; · iexact Ht
    isplitl [Hr]; · iexact Hr
    isplitl [Ht']; · iexact Ht'
    iexact Hr'
  iintro ⟨Hc, HO⟩
  iapply HK
  isplitl [Hc]; · iexact Hc
  iexists W; iexact HO

end Cert.KernelIdeal.Pass

end
-- ==== Proof.Whole.lean ====
/-
  Loads and stores of whole staged blocks, the closed forms of the kernel's semaphores, devices and conditions, and the waits
  for copies.
-/
module

public import proofs.«01_k».proof.Proof.Steps

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Cert.KernelIdeal Cert.KernelIdeal.Gen

variable {F : FTy → Type} [FloatOps F]

local notation "𝕄" => MT nD τ sig ℕ (Elt F) ℕ UU ℕ

variable {α : Type} (K : GSem nD τ sig → ℕ) (c : Dev nD)

section WholeBlocks

variable {s : Shape} {e : EltTy} {m : Memref sig .tc .vmem s e}

theorem zero_emb {off : Fin s.rank → ℕ} (ho : ∀ a, off a = 0) (inb : ∀ a, off a + s.size a ≤ s.size a) (x : s.Idx) :
    (Rect.unit (s := s) off s.size inb).emb x = x := by
  refine funext fun a => Fin.ext ?_
  show off a + 1 * (x a).val = (x a).val
  rw [ho a]; omega

/-- A load of a whole block. -/
theorem wp_load_block {Q : α → sProp 𝕄} {off : Fin s.rank → ℕ} (ho : ∀ a, off a = 0) {inb : ∀ a, off a + s.size a ≤ s.size a}
    {hl : m.view.LoadsAt (Rect.unit (s := s) off s.size inb).toLoadRect} {q : PosShare TreeShare} {X : s.Idx → Elt F e}
    {k : (s.Idx → Elt F e) → Prog (TpuEff nD τ sig (Elt F) Λ₀ .tc) α} :
    owns (c : Thread nD τ) m q X ⊢ iprop((owns (c : Thread nD τ) m q X -∗ Run c (k X) Q)
      -∗ Run c (.op (.load m (Rect.unit (s := s) off s.size inb).toLoadRect hl) k) Q) := by
  unfold owns
  iintro ⟨%f, %hf, H⟩ HK
  iapply (wp_load (defs := defs₀ (F := F)) (Γ := .empty) 𝒱₀ (c : Thread nD τ) none Set.univ (m := m) (r := (Rect.unit (s := s) off s.size inb).toLoadRect) (hl := hl) (k := k)
    (S := m.view.set) (q := q) (f := f) (Q := Q) (Finset.map_subset_map.mpr (Finset.subset_univ _))) $$ H
  iintro H
  have e1 : m.view.readAt (Elt F) (Rect.unit (s := s) off s.size inb).toLoadRect f = X := by
    rw [← hf]
    exact funext fun x => congrArg (m.view.read (Elt F) f) (zero_emb ho inb x)
  rw [e1]
  iapply HK
  iexists f
  isplitr; · ipureintro; exact hf
  iexact H

/-- A store of a whole block. -/
theorem wp_store_block {Q : α → sProp 𝕄} {off : Fin s.rank → ℕ} (ho : ∀ a, off a = 0) {inb : ∀ a, off a + s.size a ≤ s.size a}
    {X w : s.Idx → Elt F e} {hst hm}
    {k : PUnit → Prog (TpuEff nD τ sig (Elt F) Λ₀ .tc) α} :
    owns (c : Thread nD τ) m fullShare X ⊢ iprop((owns (c : Thread nD τ) m fullShare w -∗ Run c (k ⟨⟩) Q)
      -∗ Run c (.op (.store m (Rect.unit (s := s) off s.size inb) w Finset.univ hst hm) k) Q) := by
  have hw (f : m.view.ty.Contents (Elt F)) := wp_store (defs := defs₀ (F := F)) (Γ := .empty) 𝒱₀ (c : Thread nD τ) none Set.univ (m := m)
    (r := Rect.unit (s := s) off s.size inb) (w := w)
    (Mk := Finset.univ) (hx := hst) (hm := hm) (k := k) (S := m.view.set) (f := f) (Q := Q) (by
      rw [View.setOn_univ, show (m.access (Rect.unit (s := s) off s.size inb)).set = (Rect.unit (s := s) off s.size inb).set.map m.view.emb from View.set_slice ..]
      exact Finset.map_subset_map.mpr (Finset.subset_univ _))
  unfold owns
  iintro ⟨%f, -, H⟩ HK
  iapply (hw f) $$ H
  iintro H
  iapply HK
  iexists ((m.access (Rect.unit (s := s) off s.size inb)).write (Elt F) f w Finset.univ)
  isplitr
  · ipureintro
    funext x
    have := View.read_slice_write_emb (v := m.view) (Rect.unit (s := s) off s.size inb) f w (Finset.mem_univ x)
    rw [zero_emb ho] at this
    exact this
  iexact H

end WholeBlocks

/-! ## Closed forms -/

theorem sem_x_send {h : ℕ} {o : Fin 1 → ℕ} (ho : o = ![h % 2]) (inb : ∀ a, o a + S1.size a ≤ S2.size a) :
    SemLoc.dma ((cc0_scratch2.slice (Rect.unit (s := S2) o S1.size inb)).squeeze S_ squeezes_S1_S_).sem = (xsS h : SemLoc sig) := by
  subst ho
  unfold xsS
  refine congrArg SemLoc.dma (Fin.ext ?_)
  show _ = 6 + h % 2
  have hm := Nat.mod_lt h (by decide : 0 < 2)
  generalize h % 2 = j at inb hm
  obtain rfl | rfl : j = 0 ∨ j = 1 := by omega
  all_goals decide +revert
theorem sem_x_recv {h : ℕ} {o : Fin 1 → ℕ} (ho : o = ![h % 2]) (inb : ∀ a, o a + S1.size a ≤ S2.size a) :
    SemLoc.dma ((cc0_scratch3.slice (Rect.unit (s := S2) o S1.size inb)).squeeze S_ squeezes_S1_S_).sem = (xrS h : SemLoc sig) := by
  subst ho
  unfold xrS
  refine congrArg SemLoc.dma (Fin.ext ?_)
  show _ = 8 + h % 2
  have hm := Nat.mod_lt h (by decide : 0 < 2)
  generalize h % 2 = j at inb hm
  obtain rfl | rfl : j = 0 ∨ j = 1 := by omega
  all_goals decide +revert
theorem sem_a_send {h : ℕ} {o : Fin 1 → ℕ} (ho : o = ![h % 2]) (inb : ∀ a, o a + S1.size a ≤ S2.size a) :
    SemLoc.dma ((cc0_scratch4.slice (Rect.unit (s := S2) o S1.size inb)).squeeze S_ squeezes_S1_S_).sem = (asS h : SemLoc sig) := by
  subst ho
  unfold asS
  refine congrArg SemLoc.dma (Fin.ext ?_)
  show _ = 10 + h % 2
  have hm := Nat.mod_lt h (by decide : 0 < 2)
  generalize h % 2 = j at inb hm
  obtain rfl | rfl : j = 0 ∨ j = 1 := by omega
  all_goals decide +revert
theorem sem_a_recv {h : ℕ} {o : Fin 1 → ℕ} (ho : o = ![h % 2]) (inb : ∀ a, o a + S1.size a ≤ S2.size a) :
    SemLoc.dma ((cc0_scratch5.slice (Rect.unit (s := S2) o S1.size inb)).squeeze S_ squeezes_S1_S_).sem = (arS h : SemLoc sig) := by
  subst ho
  unfold arS
  refine congrArg SemLoc.dma (Fin.ext ?_)
  show _ = 12 + h % 2
  have hm := Nat.mod_lt h (by decide : 0 < 2)
  generalize h % 2 = j at inb hm
  obtain rfl | rfl : j = 0 ∨ j = 1 := by omega
  all_goals decide +revert
theorem sem_xc : SemLoc.reg cc0_scratch6.sem = (xcS : SemLoc sig) := rfl
theorem sem_ac : SemLoc.reg cc0_scratch7.sem = (acS : SemLoc sig) := rfl
theorem sem_bar : SemLoc.reg (SemArray.scalar (sig.barrier 0 rfl) : Sems sig S_).sem = (barS : SemLoc sig) := rfl

theorem dev1 (h) : (⟨k0_dev1 c, h⟩ : Dev nD) = prv c := by revert c; decide
theorem dev2 (h) : (⟨k0_dev2 c, h⟩ : Dev nD) = nxt c := by revert c; decide
theorem dev3 (h) : (⟨k0_dev3 c, h⟩ : Dev nD) = prv c := by revert c; decide
theorem dev4 (h) : (⟨k0_dev4 c, h⟩ : Dev nD) = prv c := by revert c; decide
theorem dev5 (h) : (⟨k0_dev5 c, h⟩ : Dev nD) = nxt c := by revert c; decide
theorem dev6 (h) : (⟨k0_dev6 c, h⟩ : Dev nD) = prv c := by revert c; decide
theorem dev7 (h) : (⟨k0_dev7 c, h⟩ : Dev nD) = nxt c := by revert c; decide
theorem dev8 (h) : (⟨k0_dev8 c, h⟩ : Dev nD) = prv c := by revert c; decide

theorem trips_eq : k0_t1_loop.trips = 8 := by decide
theorem cond1_iff : ∀ k : Fin k0_t1_loop.trips, k0_cond1 k = 1#1 ↔ k.val < 7 := by decide
theorem cond2_iff : ∀ k : Fin k0_t1_loop.trips, k0_cond2 k = 1#1 ↔ 0 < k.val := by decide
theorem cond3_iff : ∀ k : Fin k0_t1_loop.trips, k0_cond3 k = 1#1 ↔ k.val < 7 := by decide
theorem cond4_iff : ∀ k : Fin k0_t1_loop.trips, k0_cond4 k = 1#1 ↔ k.val < 6 := by decide

theorem xsS_congr (h h' : ℕ) (e : h % 2 = h' % 2) : xsS h = xsS h' := by simp only [xsS, e]
theorem xrS_congr (h h' : ℕ) (e : h % 2 = h' % 2) : xrS h = xrS h' := by simp only [xrS, e]
theorem asS_congr (h h' : ℕ) (e : h % 2 = h' % 2) : asS h = asS h' := by simp only [asS, e]
theorem arS_congr (h h' : ℕ) (e : h % 2 = h' % 2) : arS h = arS h' := by simp only [arS, e]

/-! ## Waits for copies -/

variable (D : Dev nD → Inp F)

/-- A device's place at a cell: the round it stands at, which is reached. -/
def pos (c : Dev nD) (s : SemLoc sig) (r : ℕ) : sProp 𝕄 := iprop(atPos EC (cell c s) r ∅ 0 ∗ reached EC (cell c s) r)

theorem pos_reached (s : SemLoc sig) (r : ℕ) : (pos c s r : sProp 𝕄) ⊢ iprop(pos c s r ∗ reached EC (cell c s) r) := by
  unfold pos; iintro ⟨H, #Hr⟩
  isplitl [H]
  · isplitl [H]; · iexact H
    iexact Hr
  iexact Hr

/-- A wait for the copy that fills a round. -/
theorem wp_copy {Q : α → sProp 𝕄} (k : Pk) (h : ℕ) (hk : k ≠ .barP) (hk' : k ≠ .barN) (l : List (Pk × ℕ)) {b : ℕ} (hl : From b l) (hb : k.idx h < b) (hb' : k.idx h < 100)
    {s : DmaSem sig} (hs : SemLoc.dma s = k.sem h) {src dst : Memref sig .tc .vmem S256x1024 .bf16} (hN : dst.view.dmaCredit = k.units)
    {P : sProp 𝕄} (hexp : (Rd D).expect (cell c (k.sem h)) (k.round h) = k.units)
    (hP : bigSep ((Rd D).duties (cell c (k.sem h)) (k.round h) \ ∅) (fun d => (Rd D).payload (cell c (k.sem h)) (k.round h) d) = P)
    {h1 h2} {kt : PUnit → Prog (TpuEff nD τ sig (Elt F) Λ₀ .tc) α} :
    iprop(Invs D K ∗ levAts (L 100) lv ∗ credOf c k h ∗ ow c l ∗ pos c (k.sem h) (k.round h))
      ⊢ iprop((ow c l ∗ pos c (k.sem h) (k.round h + 1) ∗ P -∗ Run c (kt ⟨⟩) Q) -∗ Run c (.op (.waitDma2 s src dst h1 h2) kt) Q) := by
  unfold pos
  iintro ⟨HI, Hlev, Hc, HO, Hat, -⟩ HK
  ihave HI' := (Invs_ring D K c k h hk hk') $$ HI
  iapply (wp_round D K c k h l hl hb hb' (fun Kt => by rw [wpE_waitDma2_eq, hs, hN]) hexp hP) $$ [HI' Hlev Hc HO Hat]
  · isplitl [HI']; · iexact HI'
    isplitl [Hlev]; · iexact Hlev
    isplitl [Hc]; · iexact Hc
    isplitl [HO] <;> iassumption
  iintro ⟨HO, Hat, Hr, HP⟩
  iapply HK
  isplitl [HO]; · iexact HO
  isplitl [Hat Hr]
  · isplitl [Hat] <;> iassumption
  iexact HP

/-- A wait for a row credit. -/
theorem wp_row_credit {Q : α → sProp 𝕄} {h : ℕ} (hh : h < 7) (l : List (Pk × ℕ)) {b : ℕ} (hl : From b l) (hb : 10 * h + 9 < b)
    {s : Sem sig} (hs : SemLoc.reg s = xcS) {n : ℤ} (hn : n = 1)
    {kt : PUnit → Prog (TpuEff nD τ sig (Elt F) Λ₀ .tc) α} :
    iprop(Invs D K ∗ levAts (L 100) lv ∗ credOf c .xc h ∗ ow c l ∗ pos c xcS h)
      ⊢ iprop((ow c l ∗ pos c xcS (h + 1) ∗ xcPay c h -∗ Run c (kt ⟨⟩) Q) -∗ Run c (.op (.semWait s n) kt) Q) := by
  obtain rfl : s = 0 := SemLoc.reg.inj hs
  subst hn
  unfold pos
  iintro ⟨HI, Hlev, Hc, HO, Hat, -⟩ HK
  ihave HI' := (Invs_ring D K c .xc h (by decide) (by decide)) $$ HI
  iapply (wp_round D K c .xc h l hl hb (by simp only [Pk.idx]; omega) (wpE_semWait_eq 𝒱₀ (c : Thread nD τ) none Set.univ) (expect_xc D c hh) (rest_xc D c hh)) $$ [HI' Hlev Hc HO Hat]
  · isplitl [HI']; · iexact HI'
    isplitl [Hlev]; · iexact Hlev
    isplitl [Hc]; · iexact Hc
    isplitl [HO]; · iexact HO
    iexact Hat
  iintro ⟨HO, Hat, Hr, HP⟩
  iapply HK
  isplitl [HO]; · iexact HO
  isplitl [Hat Hr]
  · isplitl [Hat]; · iexact Hat
    iexact Hr
  iexact HP

end Cert.KernelIdeal.Pass

end
-- ==== Proof.Rows.lean ====
/-
  The first part of one trip of the loop: the rows are sent on while the device's heads are applied to them.
-/
module

public import proofs.«01_k».proof.Proof.Whole

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Cert.KernelIdeal Cert.KernelIdeal.Gen

variable {F : FTy → Type} [FloatOps F]

local notation "𝕄" => MT nD τ sig ℕ (Elt F) ℕ UU ℕ

variable (D : Dev nD → Inp F) (K : GSem nD τ sig → ℕ) (c : Dev nD)

/-- The staged weights, which the loop only reads. -/
def Wins (a1 : Memref sig .tc .vmem S8x1024x128 .bf16) (a2 : Memref sig .tc .vmem S8x128x1024 .bf16)
    (a3 a4 : Memref sig .tc .vmem S8x4096x128 .bf16) : sProp 𝕄 :=
  iprop(owns (c : Thread nD τ) a1 fullShare (D c).wq ∗ owns (c : Thread nD τ) a2 fullShare (D c).wo
    ∗ owns (c : Thread nD τ) a3 fullShare (D c).k ∗ owns (c : Thread nD τ) a4 fullShare (D c).v)

/-- The rows at the start of a hop: the slot that holds them, and the place in the row credits. -/
def XPre (h : ℕ) : sProp 𝕄 := iprop(pos c xcS (min h 7) ∗ slotPt hx c (min h 7) fullShare (rows D (min h 7) c))

/-- The rows while they are sent on: half of the slot, and the two credits of the copies; in the last hop nothing is sent. -/
def XMid (h : ℕ) : sProp 𝕄 :=
  if h < 7 then iprop(slotPt hx c h fullShare.right (rows D h c) ∗ credOf c .xs h ∗ credOf c .xr h ∗ pos c xcS (h + 1))
  else iprop(slotPt hx c 7 fullShare (rows D 7 c) ∗ pos c xcS 7)

theorem zero3 (a : Fin 3) : (![0, 0, 0] : Fin 3 → ℕ) a = 0 := by fin_cases a <;> rfl
theorem zero2 (a : Fin 2) : (![0, 0] : Fin 2 → ℕ) a = 0 := by fin_cases a <;> rfl

variable {arg0 : Memref sig .tc .vmem S256x1024 .bf16} {harg0 : arg0.IsWhole} {arg1 : Memref sig .tc .vmem S8x1024x128 .bf16} {harg1 : arg1.IsWhole}
  {arg2 : Memref sig .tc .vmem S8x128x1024 .bf16} {harg2 : arg2.IsWhole} {arg3 : Memref sig .tc .vmem S8x4096x128 .bf16} {harg3 : arg3.IsWhole}
  {arg4 : Memref sig .tc .vmem S8x4096x128 .bf16} {harg4 : arg4.IsWhole} {arg5 : Memref sig .tc .vmem S256x1024 .f32} {harg5 : arg5.IsWhole}
  {hx' : xM.IsWhole} {ha' : aM.IsWhole}

set_option maxHeartbeats 1000000 in
/-- The first part of trip `h`: with a credit for the next device's slot the rows are sent on from half of their slot; the heads
    are applied to the rows. -/
theorem part1_run (t : Fin k0_t1_loop.trips) (v24 w0 w1 : BitVec 32) {Q : (Σ' (_ : BitVec 32) (_ : BitVec 32), FVec F S8x256x1024 .f32) → sProp 𝕄} :
    iprop(Invs D K ∗ levAts (L 100) lv ∗ ow c (codesFrom t.val) ∗ XPre D c t.val ∗ left t.val 7 (xCred c) ∗ left t.val 7 (xTok c)
        ∗ reached EC (cell c (xsS t.val)) (t.val / 2) ∗ Wins D c arg1 arg2 arg3 arg4)
      ⊢ iprop((∀ a b, ow c (codes2 t.val ++ codesFrom (t.val + 1)) ∗ XMid D c t.val ∗ left (t.val + 1) 7 (xCred c) ∗ left (t.val + 1) 7 (xTok c)
          ∗ Wins D c arg1 arg2 arg3 arg4 -∗ Q ⟨a, b, heads D c (rows D t.val c)⟩)
        -∗ Run c (k0_part1 arg0 harg0 arg1 harg1 arg2 harg2 arg3 harg3 arg4 harg4 arg5 harg5 xM hx' aM ha' cc0_scratch2 cc0_scratch3 cc0_scratch4 cc0_scratch5 cc0_scratch6 cc0_scratch7 c v24 w0 w1 t) Q) := by
  have ht : t.val < 8 := t.isLt.trans_eq trips_eq
  rw [k0_part1_eq_skeleton]
  unfold k0_part1_skel
  simp only [semSignalWord, semWaitWord, Prog.lift, Prog.bind_op, Prog.bind_ret, Prog.pure_eq_ret]
  unfold XPre XMid
  rw [codesFrom_pop ht, codes1]
  by_cases h7 : t.val < 7
  · rw [dif_pos ((cond1_iff t).mpr h7), if_pos h7, if_pos h7, left_pop h7, left_pop h7, Nat.min_eq_left (by omega : t.val ≤ 7)]
    have hF : From (10 * t.val + 11) ([(Pk.xr, t.val)] ++ codes2 t.val ++ codesFrom (t.val + 1)) := by
      have := fromAll t.val
      rwa [codesFrom_pop ht, codes1, if_pos h7] at this
    iintro ⟨#HI, #Hlev, HO, ⟨Hpos, Hx⟩, ⟨⟨Hc1, Hc2⟩, Hcs⟩, ⟨⟨Ht1, Ht2⟩, Hts⟩, Hr, HW⟩ HK
    iapply (wp_row_credit K c D h7 _ hF (by omega) sem_xc rfl) $$ [Hc1 HO Hpos]
    · isplitr; · iexact HI
      isplitr; · iexact Hlev
      isplitl [Hc1]; · iexact Hc1
      isplitl [HO]; · iexact HO
      iexact Hpos
    iintro ⟨HO, Hpos, Hpay⟩
    unfold xcPay
    icases Hpay with ⟨Hn, #Hrn⟩
    ihave Hp := (pos_reached c xcS (t.val + 1)) $$ Hpos
    icases Hp with ⟨Hpos, #Hxr⟩
    ihave Hh := (slot_halves hx c t.val (rows D t.val c)) $$ Hx
    icases Hh with ⟨Hxl, Hx⟩
    iapply (wp_send_rows D K c h7 (codes2 t.val ++ codesFrom (t.val + 1)) (k0_off4_eq t) (k0_off3_eq t) (sem_x_send (k0_off1_eq t) _) (sem_x_recv (k0_off2_eq t) _) (dev5 c _)) $$ [Hxl Hn HO Ht1 Ht2 Hr]
    · isplitr; · iexact HI
      isplitl [Hxl]; · iexact Hxl
      isplitl [Hn]; · iexact Hn
      isplitl [HO]; · iexact HO
      isplitl [Ht1]; · iexact Ht1
      isplitl [Hr]; · iexact Hr
      isplitl [Ht2]; · iexact Ht2
      isplitr; · iexact Hrn
      iexact Hxr
    iintro ⟨Hc, HO⟩
    unfold Wins
    icases HW with ⟨H1, H2, H3, H4⟩
    iapply (wp_load_slot hx c (k0_off5_eq t)) $$ Hx; iintro Hx
    iapply (wp_load_block c zero3) $$ H1; iintro H1
    iapply (wp_load_block c zero3) $$ H3; iintro H3
    iapply (wp_load_block c zero3) $$ H4; iintro H4
    iapply (wp_load_block c zero3) $$ H2; iintro H2
    rw [show k0_pay2 (rows D t.val c) (D c).wq (D c).k (D c).v (D c).wo = heads D c (rows D t.val c) from rfl]
    iapply (run_ret c)
    iapply HK
    isplitl [HO]; · iexact HO
    isplitl [Hx Hc Hc2 Hpos]
    · isplitl [Hx]; · iexact Hx
      isplitl [Hc]; · iexact Hc
      isplitl [Hc2]; · iexact Hc2
      iexact Hpos
    isplitl [Hcs]; · iexact Hcs
    isplitl [Hts]; · iexact Hts
    isplitl [H1]; · iexact H1
    isplitl [H2]; · iexact H2
    isplitl [H3]; · iexact H3
    iexact H4
  · rw [dif_neg (fun e => h7 ((cond1_iff t).mp e)), if_neg h7, if_neg h7]
    have e7 : t.val = 7 := by omega
    rw [e7]
    simp only [List.nil_append, Nat.min_self]
    rw [left_nil (h := 7 + 1) (n := 7) (by decide), left_nil (h := 7 + 1) (n := 7) (by decide)]
    iintro ⟨-, -, HO, ⟨Hpos, Hx⟩, -, -, -, HW⟩ HK
    unfold Wins
    icases HW with ⟨H1, H2, H3, H4⟩
    iapply (wp_load_slot hx c (by rw [k0_off5_eq t, e7])) $$ Hx; iintro Hx
    iapply (wp_load_block c zero3) $$ H1; iintro H1
    iapply (wp_load_block c zero3) $$ H3; iintro H3
    iapply (wp_load_block c zero3) $$ H4; iintro H4
    iapply (wp_load_block c zero3) $$ H2; iintro H2
    rw [show k0_pay2 (rows D 7 c) (D c).wq (D c).k (D c).v (D c).wo = heads D c (rows D 7 c) from rfl]
    iapply (run_ret c)
    iapply HK
    isplitl [HO]; · iexact HO
    isplitl [Hx Hpos]
    · isplitl [Hx] <;> iassumption
    isplitr; · iempintro
    isplitr; · iempintro
    isplitl [H1]; · iexact H1
    isplitl [H2]; · iexact H2
    isplitl [H3]; · iexact H3
    iexact H4

end Cert.KernelIdeal.Pass

end
-- ==== Proof.Hop.lean ====
/-
  The steps of one trip of the loop: the sum arrives, is extended and sent on, the next rows arrive, the freed slot is credited.
-/
module

public import proofs.«01_k».proof.Proof.Rows

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Cert.KernelIdeal Cert.KernelIdeal.Gen

variable {F : FTy → Type} [FloatOps F]

local notation "𝕄" => MT nD τ sig ℕ (Elt F) ℕ UU ℕ

variable (D : Dev nD → Inp F) (K : GSem nD τ sig → ℕ) (ι : Dev nD × Fin 2 → ℕ) (c : Dev nD)

/-! ## The state between hops -/

/-- The slot of a hop. -/
abbrev par (h : ℕ) : Fin 2 := ⟨h % 2, Nat.mod_lt _ (by decide)⟩

/-- The invariants of the sum slots. -/
def SlotInvs : sProp 𝕄 := bigSep Finset.univ fun k : Dev nD × Fin 2 => slotInv ES (ι k) k (slotAny aM k.1 k.2.val)
instance SlotInvs_persistent : BI.Persistent (SlotInvs (F := F) ι) := by unfold SlotInvs; infer_instance

theorem SlotInvs_at (h : ℕ) : SlotInvs ι ⊢ (slotInv ES (ι (c, par h)) (c, par h) (slotAny aM c h) : sProp 𝕄) := by
  have e : (slotAny aM c h : sProp 𝕄) = slotAny aM c (par h).val := slotAny_congr c (Nat.mod_mod _ _).symm
  rw [e]
  exact bigSep_elim (Φ := fun k : Dev nD × Fin 2 => slotInv ES (ι k) k (slotAny aM k.1 k.2.val)) (Finset.mem_univ (c, par h))

/-- What lasts: all invariants, the levels, and that the previous device's cell of sum credits is open. -/
def Pers : sProp 𝕄 := iprop(Invs D K ∗ levAts (L 100) lv ∗ SlotInvs ι ∗ reached EC (cell (prv c) acS) 0)
instance Pers_persistent : BI.Persistent (Pers D K ι c) := by unfold Pers; infer_instance

/-- The places at the rows' copy semaphores. -/
def XPos (h : ℕ) : sProp 𝕄 :=
  iprop(pos c (xsS h) (h / 2) ∗ pos c (xsS (h + 1)) ((h + 1) / 2) ∗ pos c (xrS (h + 1)) (h / 2) ∗ pos c (xrS h) ((h + 1) / 2))
/-- The row slot that is not lent: none until the last hops. -/
def Spare (h : ℕ) : sProp 𝕄 := if h < 7 then iprop(emp) else slotAny xM c 8
/-- The release counts of the two sum slots. -/
def Counts (h : ℕ) : sProp 𝕄 := iprop(readerAt ES (c, par (h + 1)) (h / 2 + 1) ∗ readerAt ES (c, par h) ((h + 1) / 2))
/-- The places at the semaphores of the sum's copies of hop `h`. -/
def APend (h : ℕ) : sProp 𝕄 := iprop(pos c (asS h) (h / 2) ∗ pos c (arS (h + 1)) (h / 2))
/-- The sum of hop `h` has arrived, the other slot is free. -/
def Acc (h : ℕ) : sProp 𝕄 := iprop(slotPt ha c h fullShare (sums D h c) ∗ APend c (h + 1) ∗ Counts c h ∗ freeFact c h)
/-- The sum of hop `h` has been sent and the next is awaited. -/
def Pending (h : ℕ) : sProp 𝕄 := iprop((credOf c .as h ∗ credOf c .ar h) ∗ APend c h ∗ Counts c h ∗ freeFact c h)
/-- The sum at the start of a hop. -/
def APre : ℕ → sProp 𝕄
  | 0 => Acc D c 0
  | h + 1 => Pending c h
/-- The sum credits heard so far, of which `h` are spent. -/
def Heard (h : ℕ) : sProp 𝕄 := iprop(∃ S : Finset ℕ, ⌜S ⊆ Finset.range 8 ∧ h ≤ S.card⌝ ∗ atPos EC (cell c acS) 0 S h ∗ bigSep S fun d => acPay c d)
/-- The right to write the next device's sum slot in hop `h`. -/
abbrev wTok (h : ℕ) : sProp 𝕄 := writeTok ES (nxt c, par (h + 1)) (h / 2 + 1)

/-- The other send semaphore of a slot two hops on is the same. -/
theorem APend_two (h : ℕ) : (APend c (h + 2) : sProp 𝕄) = iprop(pos c (asS h) (h / 2 + 1) ∗ pos c (arS (h + 1)) (h / 2 + 1)) := by
  unfold APend
  rw [asS_congr (h + 2) h (by omega), arS_congr (h + 2 + 1) (h + 1) (by omega), show (h + 2) / 2 = h / 2 + 1 by omega]

theorem XPos_succ (h : ℕ) : (XPos c (h + 1) : sProp 𝕄)
    = iprop(pos c (xsS (h + 1)) ((h + 1) / 2) ∗ pos c (xsS h) (h / 2 + 1) ∗ pos c (xrS h) ((h + 1) / 2) ∗ pos c (xrS (h + 1)) (h / 2 + 1)) := by
  unfold XPos
  rw [xsS_congr (h + 1 + 1) h (by omega), xrS_congr (h + 1 + 1) h (by omega), show (h + 1 + 1) / 2 = h / 2 + 1 by omega]

theorem sums_next (h : ℕ) : sums D (h + 1) (nxt c) = k0_pay5 (heads D c (rows D h c)) (sums D h c) := by rw [sums, prv_nxt]

/-- A later release of the same slot tells of the earlier ones. -/
theorem freeFact_mono (r : Dev nD) {h d : ℕ} (hd : h ≤ d) (e : h % 2 = d % 2) : freeFact r d ⊢ (freeFact r h : sProp 𝕄) := by
  unfold freeFact
  have e1 : (⟨(d + 1) % 2, Nat.mod_lt _ (by decide)⟩ : Fin 2) = ⟨(h + 1) % 2, Nat.mod_lt _ (by decide)⟩ := Fin.ext (by show (d + 1) % 2 = (h + 1) % 2; omega)
  rw [e1, arS_congr (d + 1) (h + 1) (by omega)]
  iintro ⟨H1, H2⟩
  isplitl [H1]
  · iapply (released_mono ES (n' := h / 2 + 1) (n := d / 2 + 1) (by omega)); iexact H1
  · iapply (reached_mono EC (r' := h / 2) (r := d / 2) (by omega)); iexact H2

instance acPay_persistent (d : ℕ) : BI.Persistent (acPay (F := F) c d) := by unfold acPay; infer_instance

/-- The credit of hop `h` or a later one tells that the slot of hop `h` is free. -/
theorem acPay_free {h d : ℕ} (hd : h ≤ d) : acPay c d ⊢ (freeFact (nxt c) h : sProp 𝕄) := by
  unfold acPay
  by_cases e : h % 2 = d % 2
  · exact sep_elim_left.trans (freeFact_mono _ hd e)
  · exact sep_elim_right.trans (freeFact_mono _ (by omega) (by omega))

theorem exists_late {S : Finset ℕ} {h : ℕ} (hS : h + 1 ≤ S.card) : ∃ d ∈ S, h ≤ d := by
  by_contra hn
  have : S ⊆ Finset.range h := fun d hd => Finset.mem_range.mpr (by by_contra hd'; exact hn ⟨d, hd, by omega⟩)
  have := Finset.card_le_card this
  rw [Finset.card_range] at this
  omega

/-- A slot has elements. -/
theorem slot_nonempty (h : ℕ) : (slotSet aM h).Nonempty := by
  rw [slotSet, View.set]
  refine Finset.map_nonempty.mpr ⟨fun a => ⟨0, ?_⟩, Finset.mem_univ _⟩
  exact (by decide : ∀ a : Fin 3, 0 < S1x256x1024.size a) a

/-! ## The steps -/

variable {α : Type}

/-- A program that branches and joins again, through what holds at the join. -/
theorem run_cases {P : sProp 𝕄} (Mid : sProp 𝕄) {Q : α → sProp 𝕄} {C : Prop} [Decidable C] {J : Prog (TpuEff nD τ sig (Elt F) Λ₀ .tc) α}
    {p : C → Prog (TpuEff nD τ sig (Elt F) Λ₀ .tc) α} (hJ : Mid ⊢ Run c J Q) (hp : ∀ h : C, P ⊢ iprop((Mid -∗ Run c J Q) -∗ Run c (p h) Q))
    (hn : ¬C → P ⊢ Mid) : P ⊢ Run c (if h : C then p h else J) Q := by
  by_cases h : C
  · rw [dif_pos h]
    have h1 := hp h
    have h2 : (iprop(emp) : sProp 𝕄) ⊢ iprop(Mid -∗ Run c J Q) := by iintro -  HM; iapply hJ; iexact HM
    iintro HP
    iapply h1 $$ HP
    iapply h2; iempintro
  · rw [dif_neg h]
    exact (hn h).trans hJ

/-- The sum of hop `j` has been sent: its slot comes back, is released and credited, and the next sum arrives. -/
theorem sum_arrives {Q : α → sProp 𝕄} {j : ℕ} (hj : j + 1 < 8) {l : List (Pk × ℕ)} (hl : From (10 * j + 24) l)
    {s s' : DmaSem sig} (hs : SemLoc.dma s = asS j) (hs' : SemLoc.dma s' = arS (j + 1)) {sg : Sem sig} (hsg : SemLoc.reg sg = acS)
    {d : Dev nD} (hd : d = prv c) {n : ℤ} (hn : n = 1)
    {src dst src' dst' : Memref sig .tc .vmem S256x1024 .bf16} (hN : dst.view.dmaCredit = Na) (hN' : dst'.view.dmaCredit = Na) {h1 h2 h3 h4}
    {kt : Prog (TpuEff nD τ sig (Elt F) Λ₀ .tc) α} :
    iprop(Pers D K ι c ∗ ow c ((.ac, j + 1) :: l) ∗ Pending c j ∗ reached EC (cell c (arS (j + 2))) ((j + 1) / 2) ∗ acTok c j)
      ⊢ iprop((ow c l ∗ Acc D c (j + 1) -∗ Run c kt Q)
        -∗ Run c (.op (.waitDma2 s src dst h1 h2) fun _ => .op (.semSignal (d, .tc) sg n) fun _ => .op (.waitDma2 s' src' dst' h3 h4) fun _ => kt) Q) := by
  have hl' : From (10 * j + 24) ((Pk.ac, j + 1) :: l) := .cons ⟨by simp only [Pk.idx]; omega, by simp only [Pk.idx]; omega⟩ hl
  unfold Pers Pending Acc
  have eP : (APend c (j + 1 + 1) : sProp 𝕄) = APend c (j + 2) := rfl
  rw [eP, APend_two]
  unfold APend Counts
  iintro ⟨⟨#HI, #Hlev, #HS, #Hac⟩, HO, ⟨⟨Hc1, Hc2⟩, ⟨Hp1, Hp2⟩, ⟨Hr1, Hr2⟩, #Hf⟩, #Hrc, Ht⟩ HK
  iapply (wp_copy K c D .as j (by decide) (by decide) _ (b := 10 * j + 24) hl' (by simp only [Pk.idx]; omega) (by simp only [Pk.idx]; omega) hs hN
    (expect_as D c (by omega)) (rest_as D c (by omega))) $$ [Hc1 HO Hp1]
  · isplitr; · iexact HI
    isplitr; · iexact Hlev
    isplitl [Hc1]; · iexact Hc1
    isplitl [HO]; · iexact HO
    iexact Hp1
  iintro ⟨HO, Hp1, Hslot⟩
  unfold asPay
  ihave HSi := (SlotInvs_at ι c j) $$ HS
  imod (slot_release ES (ι := ι (c, par j)) (Es := Set.univ) (S := slotAny aM c j) (Set.mem_univ _) (slot_slot_false (slot_nonempty j)) ((j + 1) / 2)) $$ [HSi Hr2 Hslot] with ⟨Hr2, #Hrel⟩
  · isplitl [HSi]; · iexact HSi
    isplitl [Hr2]; · iexact Hr2
    iexact Hslot
  have e2 : par (j + 1 + 1) = par j := Fin.ext (by show (j + 1 + 1) % 2 = j % 2; omega)
  have hfree : iprop(released ES (c, par j) ((j + 1) / 2 + 1) ∗ reached EC (cell c (arS (j + 2))) ((j + 1) / 2)) ⊢ (freeFact c (j + 1) : sProp 𝕄) := by
    unfold freeFact
    rw [show (⟨(j + 1 + 1) % 2, Nat.mod_lt _ (by decide)⟩ : Fin 2) = par j from e2]
  ihave #Hf' := hfree $$ [Hrel Hrc]
  · isplitr; · iexact Hrel
    iexact Hrc
  ihave HIa := (Invs_ring D K (prv c) .ac (j + 1) (by decide) (by decide)) $$ HI
  iapply (wp_credit D K c .ac (j + 1) l hd hsg hn rfl (by show j + 1 ∈ _; rw [show Pk.round .ac (j + 1) = 0 from rfl]; exact (duties_ac D (prv c)).symm ▸ Finset.mem_range.mpr (by omega))
    (amount_ac D (prv c) _ _) (P := iprop(freeFact c (j + 1) ∗ freeFact c j)) (by
      refine (payload_ac D (prv c) _ _).trans ?_
      unfold acPay; rw [nxt_prv]; rfl)) $$ [HIa HO Ht]
  · isplitl [HIa]; · iexact HIa
    isplitl [HO]; · iexact HO
    isplitl [Ht]; · iexact Ht
    isplitr
    · isplitr; · iexact Hf'
      iexact Hf
    iexact Hac
  iintro HO
  iapply (wp_copy K c D .ar j (by decide) (by decide) _ (b := 10 * j + 24) hl (by simp only [Pk.idx]; omega) (by simp only [Pk.idx]; omega) hs' hN'
    (expect_ar D c (by omega)) (rest_ar D c (by omega))) $$ [Hc2 HO Hp2]
  · isplitr; · iexact HI
    isplitr; · iexact Hlev
    isplitl [Hc2]; · iexact Hc2
    isplitl [HO]; · iexact HO
    iexact Hp2
  iintro ⟨HO, Hp2, Hslot⟩
  unfold arPay
  iapply HK
  isplitl [HO]; · iexact HO
  isplitl [Hslot]; · iexact Hslot
  isplitl [Hp1 Hp2]
  · isplitl [Hp1]; · iexact Hp1
    iexact Hp2
  isplitl [Hr1 Hr2]
  · rw [e2, show (j + 1 + 1) / 2 = j / 2 + 1 by omega]
    isplitl [Hr2]; · iexact Hr2
    iexact Hr1
  iexact Hf'

/-- The sum of hop `h` is extended by the device's heads and sent on into the next device's free slot. -/
theorem sum_moves {Q : α → sProp 𝕄} {h : ℕ} (hh : h < 8) {l : List (Pk × ℕ)} (hl : From (10 * h + 16) ((.ar, h) :: l))
    {o o1 o2 : Fin 3 → ℕ} (ho : o = ![h % 2, 0, 0]) (ho1 : o1 = ![h % 2, 0, 0]) (ho2 : o2 = ![(h + 1) % 2, 0, 0])
    {inb inb' inb'' : ∀ a, o a + S1x256x1024.size a ≤ S2x256x1024.size a} {inb1 : ∀ a, o1 a + S1x256x1024.size a ≤ S2x256x1024.size a}
    {inb2 : ∀ a, o2 a + S1x256x1024.size a ≤ S2x256x1024.size a}
    {sS sR : DmaSem sig} (hS : SemLoc.dma sS = asS h) (hR : SemLoc.dma sR = arS (h + 1)) {sg : Sem sig} (hsg : SemLoc.reg sg = acS)
    {d : Dev nD} (hd : d = nxt c) {n : ℤ} (hn : n = 1) {l1 l2 hst hm hsc hsrc hdst hsem}
    {kt : Prog (TpuEff nD τ sig (Elt F) Λ₀ .tc) α} :
    iprop(Pers D K ι c ∗ ow c ((.ar, h) :: l) ∗ Acc D c h ∗ APend c h ∗ Heard c h ∗ aCred c h ∗ aTok c h ∗ wTok c h)
      ⊢ iprop((ow c l ∗ Pending c h ∗ APend c (h + 1) ∗ Heard c (h + 1) -∗ Run c kt Q)
        -∗ Run c (.op (.load aM (Rect.unit (s := S2x256x1024) o S1x256x1024.size inb).toLoadRect l1) fun v99 =>
          .op (.load aM (Rect.unit (s := S2x256x1024) o S1x256x1024.size inb').toLoadRect l2) fun _ =>
          .op (.store aM (Rect.unit (s := S2x256x1024) o S1x256x1024.size inb'') (k0_pay5 (heads D c (rows D h c)) v99) Finset.univ hst hm) fun _ =>
          .op (.semWait sg n) fun _ =>
          .op (.enqueueDma ((aM.slice (Rect.unit (s := S2x256x1024) o1 S1x256x1024.size inb1) (fun _ => rfl)).squeeze S256x1024 squeezes_S1x256x1024_S256x1024)
            (.remote (Dev.tc d) ((aM.slice (Rect.unit (s := S2x256x1024) o2 S1x256x1024.size inb2) (fun _ => rfl)).squeeze S256x1024 squeezes_S1x256x1024_S256x1024) (.dma sS) hsc)
            (.dma sR) hsrc hdst hsem) fun _ => kt) Q) := by
  unfold Pers Acc Pending Heard
  iintro ⟨⟨#HI, #Hlev, #HS, -⟩, HO, ⟨Hs, Hpn, Hcn, #Hf⟩, Hp, ⟨%S, %hS', Hat, Hheard⟩, ⟨Hc1, Hc2⟩, ⟨Ht1, Ht2⟩, Hw⟩ HK
  iapply (wp_load_slot ha c ho) $$ Hs; iintro Hs
  iapply (wp_load_slot ha c ho) $$ Hs; iintro Hs
  ihave Hs := (slot_any ha c h (sums D h c)) $$ Hs
  iapply (wp_store_slot ha c ho) $$ Hs; iintro Hs
  rw [← sums_next]
  ihave HIa := (Invs_ring D K c .ac h (by decide) (by decide)) $$ HI
  iapply (wp_sum_credit D K c hh S _ hl (by omega) hsg hn) $$ [HIa Hc1 HO Hat]
  · isplitl [HIa]; · iexact HIa
    isplitr; · iexact Hlev
    isplitl [Hc1]; · iexact Hc1
    isplitl [HO]; · iexact HO
    iexact Hat
  iintro %S' ⟨%hS2, HO, Hat, Hnew⟩
  obtain ⟨d, hd', hdh⟩ := exists_late hS2.2.2
  have hall : iprop(bigSep S (fun d => acPay c d) ∗ bigSep (S' \ S) fun d => acPay c d) ⊢ (bigSep S' fun d => acPay c d : sProp 𝕄) := by
    have := (bigSep_union (Φ := fun d => (acPay c d : sProp 𝕄)) (s := S) (t := S' \ S) Finset.disjoint_sdiff)
    rw [Finset.union_sdiff_of_subset hS2.1] at this
    rw [this]
    exact .rfl
  ihave #Hh := hall $$ [Hheard Hnew]
  · isplitl [Hheard]; · iexact Hheard
    iexact Hnew
  have hone : (bigSep S' fun d => acPay c d : sProp 𝕄) ⊢ freeFact (nxt c) h := (bigSep_elim hd').trans (acPay_free c hdh)
  ihave #Hfr := hone $$ Hh
  have hfr : (freeFact (nxt c) h : sProp 𝕄) ⊢ iprop(released ES (nxt c, par (h + 1)) (h / 2 + 1) ∗ reached EC (cell (nxt c) (arS (h + 1))) (h / 2)) := by
    unfold freeFact; exact .rfl
  ihave Hfr' := hfr $$ Hfr
  icases Hfr' with ⟨Hrel, #Hrn⟩
  ihave HSi := (SlotInvs_at ι (nxt c) (h + 1)) $$ HS
  imod (slot_take ES (Es := Set.univ) (Set.mem_univ (ι (nxt c, par (h + 1)))) (h / 2 + 1)) $$ [HSi Hrel Hw] with Hn
  · isplitl [HSi]; · iexact HSi
    isplitl [Hrel]; · iexact Hrel
    iexact Hw
  have hp : (APend c h : sProp 𝕄) ⊢ iprop(APend c h ∗ reached EC (cell c (asS h)) (h / 2)) := by
    unfold APend
    iintro ⟨H1, H2⟩
    ihave H1 := (pos_reached c _ _) $$ H1
    icases H1 with ⟨H1, H3⟩
    isplitl [H1 H2]
    · isplitl [H1]; · iexact H1
      iexact H2
    iexact H3
  ihave Hp := hp $$ Hp
  icases Hp with ⟨Hp, Hrs⟩
  iapply (wp_send_sum D K c hh l ho1 ho2 hS hR hd) $$ [Hs Hn HO Ht1 Hrs Ht2]
  · isplitr; · iexact HI
    isplitl [Hs]; · iexact Hs
    isplitl [Hn]; · iexact Hn
    isplitl [HO]; · iexact HO
    isplitl [Ht1]; · iexact Ht1
    isplitl [Hrs]; · iexact Hrs
    isplitl [Ht2]; · iexact Ht2
    iexact Hrn
  iintro ⟨Hc, HO⟩
  iapply HK
  isplitl [HO]; · iexact HO
  isplitl [Hc Hc2 Hp Hcn]
  · isplitl [Hc Hc2]
    · isplitl [Hc]; · iexact Hc
      iexact Hc2
    isplitl [Hp]; · iexact Hp
    isplitl [Hcn]; · iexact Hcn
    iexact Hf
  isplitl [Hpn]; · iexact Hpn
  iexists S'
  isplitr; · ipureintro; exact hS2.2
  isplitl [Hat]; · iexact Hat
  iexact Hh

/-- The next rows arrive, and the half of the slot that was lent to the send comes back. -/
theorem rows_arrive {Q : α → sProp 𝕄} {h : ℕ} (hh : h < 7) {l : List (Pk × ℕ)} (hl : From (10 * h + 19) l)
    {s s' : DmaSem sig} (hs : SemLoc.dma s = xrS (h + 1)) (hs' : SemLoc.dma s' = xsS h)
    {src dst src' dst' : Memref sig .tc .vmem S256x1024 .bf16} (hN : dst.view.dmaCredit = Nx) (hN' : dst'.view.dmaCredit = Nx) {h1 h2 h3 h4}
    {kt : Prog (TpuEff nD τ sig (Elt F) Λ₀ .tc) α} :
    iprop(Pers D K ι c ∗ ow c l ∗ XMid D c h ∗ XPos c h)
      ⊢ iprop((ow c l ∗ XPre D c (h + 1) ∗ XPos c (h + 1) ∗ slotAny xM c (h + 2) ∗ reached EC (cell (prv c) xcS) (h + 1)  -∗ Run c kt Q)
        -∗ Run c (.op (.waitDma2 s src dst h1 h2) fun _ => .op (.waitDma2 s' src' dst' h3 h4) fun _ => kt) Q) := by
  unfold Pers XMid XPre
  rw [if_pos hh, XPos_succ, Nat.min_eq_left (by omega : h + 1 ≤ 7), slotAny_congr c (show (h + 2) % 2 = h % 2 by omega)]
  unfold XPos
  iintro ⟨⟨#HI, #Hlev, -⟩, HO, ⟨Hs, Hc1, Hc2, Hpc⟩, ⟨Hp1, Hp2, Hp3, Hp4⟩⟩ HK
  iapply (wp_copy K c D .xr h (by decide) (by decide) _ (b := 10 * h + 19) hl (by simp only [Pk.idx]; omega) (by simp only [Pk.idx]; omega) hs hN
    (expect_xr D c hh) (rest_xr D c hh)) $$ [Hc2 HO Hp3]
  · isplitr; · iexact HI
    isplitr; · iexact Hlev
    isplitl [Hc2]; · iexact Hc2
    isplitl [HO]; · iexact HO
    iexact Hp3
  iintro ⟨HO, Hp3, Hpay⟩
  unfold xrPay
  icases Hpay with ⟨Hx, Hr⟩
  iapply (wp_copy K c D .xs h (by decide) (by decide) _ (b := 10 * h + 19) hl (by simp only [Pk.idx]; omega) (by simp only [Pk.idx]; omega) hs' hN'
    (expect_xs D c hh) (rest_xs D c hh)) $$ [Hc1 HO Hp1]
  · isplitr; · iexact HI
    isplitr; · iexact Hlev
    isplitl [Hc1]; · iexact Hc1
    isplitl [HO]; · iexact HO
    iexact Hp1
  iintro ⟨HO, Hp1, Hl⟩
  unfold xsPay
  ihave Hw := (slot_whole hx c h (rows D h c)) $$ [Hl Hs]
  · isplitl [Hl]; · iexact Hl
    iexact Hs
  ihave Hw := (slot_any hx c h (rows D h c)) $$ Hw
  iapply HK
  isplitl [HO]; · iexact HO
  isplitl [Hpc Hx]
  · isplitl [Hpc]; · iexact Hpc
    iexact Hx
  isplitl [Hp1 Hp2 Hp3 Hp4]
  · isplitl [Hp2]; · iexact Hp2
    isplitl [Hp1]; · iexact Hp1
    isplitl [Hp4]; · iexact Hp4
    iexact Hp3
  isplitl [Hw]; · iexact Hw
  iexact Hr

/-- The freed row slot is credited to the previous device. -/
theorem rows_credit {Q : α → sProp 𝕄} {h : ℕ} (hh : h < 6) {l : List (Pk × ℕ)}
    {sg : Sem sig} (hsg : SemLoc.reg sg = xcS) {d : Dev nD} (hd : d = prv c) {n : ℤ} (hn : n = 1) {kt : Prog (TpuEff nD τ sig (Elt F) Λ₀ .tc) α} :
    iprop(Pers D K ι c ∗ ow c ((.xc, h + 1) :: l) ∗ XPos c (h + 1) ∗ slotAny xM c (h + 2) ∗ reached EC (cell (prv c) xcS) (h + 1) ∗ xcTok c h)
      ⊢ iprop((ow c l ∗ XPos c (h + 1) -∗ Run c kt Q) -∗ Run c (.op (.semSignal (d, .tc) sg n) fun _ => kt) Q) := by
  unfold Pers
  have hp : (XPos c (h + 1) : sProp 𝕄) ⊢ iprop(XPos c (h + 1) ∗ reached EC (cell c (xrS (h + 2))) ((h + 1) / 2)) := by
    unfold XPos
    iintro ⟨H1, H2, H3, H4⟩
    ihave H3 := (pos_reached c _ _) $$ H3
    icases H3 with ⟨H3, Hr⟩
    isplitl [H1 H2 H3 H4]
    · isplitl [H1]; · iexact H1
      isplitl [H2]; · iexact H2
      isplitl [H3]; · iexact H3
      iexact H4
    iexact Hr
  iintro ⟨⟨#HI, -⟩, HO, Hp, Hs, Hr, Ht⟩ HK
  ihave Hp := hp $$ Hp
  icases Hp with ⟨Hp, Hrr⟩
  ihave HIa := (Invs_ring D K (prv c) .xc (h + 1) (by decide) (by decide)) $$ HI
  iapply (wp_credit D K c .xc (h + 1) l hd hsg hn rfl (by show 0 ∈ _; exact (duties_xc D (prv c) (h := h + 1) (by omega)).symm ▸ Finset.mem_singleton_self _)
    (amount_xc D (prv c) _ _) (P := iprop(slotAny xM c (h + 2) ∗ reached EC (cell c (xrS (h + 2))) ((h + 1) / 2))) (by
      refine (payload_xc D (prv c) _ _).trans ?_
      unfold xcPay; rw [nxt_prv]; rfl)) $$ [HIa HO Ht Hs Hrr Hr]
  · isplitl [HIa]; · iexact HIa
    isplitl [HO]; · iexact HO
    isplitl [Ht]; · iexact Ht
    isplitl [Hs Hrr]
    · isplitl [Hs]; · iexact Hs
      iexact Hrr
    iexact Hr
  iintro HO
  iapply HK
  isplitl [HO]; · iexact HO
  iexact Hp

end Cert.KernelIdeal.Pass

end
-- ==== Proof.Trip.lean ====
/-
  One whole trip of the loop, and the loop.
-/
module

public import proofs.«01_k».proof.Proof.Hop

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Cert.KernelIdeal Cert.KernelIdeal.Gen

variable {F : FTy → Type} [FloatOps F]

local notation "𝕄" => MT nD τ sig ℕ (Elt F) ℕ UU ℕ

variable (D : Dev nD → Inp F) (K : GSem nD τ sig → ℕ) (ι : Dev nD × Fin 2 → ℕ) (c : Dev nD)

variable (D : Dev nD → Inp F) (K : GSem nD τ sig → ℕ) (ι : Dev nD × Fin 2 → ℕ) (c : Dev nD)

/-- What a device has in stock: the credits and tokens of the rows from hop `x`, the tokens of the row credits from hop `y`, the
    credits, tokens and write rights of the sums from hop `a`, the tokens of the sum credits from hop `b`. -/
def Stock (x y a b : ℕ) : sProp 𝕄 :=
  iprop((left x 7 (xCred c) ∗ left x 7 (xTok c)) ∗ left y 6 (xcTok c) ∗ (left a 8 (aCred c) ∗ left a 8 (aTok c) ∗ left a 8 (wTok c)) ∗ left b 7 (acTok c))

/-- A point of a hop: what lasts, what is owed, the rows, the sum, the stock, the weights. -/
def At (l : List (Pk × ℕ)) (X A S W : sProp 𝕄) : sProp 𝕄 := iprop(Pers D K ι c ∗ ow c l ∗ X ∗ A ∗ S ∗ W)

/-- The state between hops. -/
def St (W : sProp 𝕄) (h : ℕ) : sProp 𝕄 :=
  At D K ι c (codesFrom h) iprop(XPre D c h ∗ XPos c (min h 7) ∗ Spare c h) iprop(APre D c h ∗ APend c h ∗ Heard c h) (Stock c h h h (h - 1)) W

/-- The row slot after the arrival of the next rows: free to be credited. -/
def Back (h : ℕ) : sProp 𝕄 := if h < 7 then iprop(slotAny xM c (h + 2) ∗ reached EC (cell (prv c) xcS) (h + 1)) else slotAny xM c 8

variable {arg0 : Memref sig .tc .vmem S256x1024 .bf16} {harg0 : arg0.IsWhole} {arg1 : Memref sig .tc .vmem S8x1024x128 .bf16} {harg1 : arg1.IsWhole}
  {arg2 : Memref sig .tc .vmem S8x128x1024 .bf16} {harg2 : arg2.IsWhole} {arg3 : Memref sig .tc .vmem S8x4096x128 .bf16} {harg3 : arg3.IsWhole}
  {arg4 : Memref sig .tc .vmem S8x4096x128 .bf16} {harg4 : arg4.IsWhole} {arg5 : Memref sig .tc .vmem S256x1024 .f32} {harg5 : arg5.IsWhole}
  {hx' : xM.IsWhole} {ha' : aM.IsWhole}

theorem left_skip {M : Type} [URA M] {h n : ℕ} (hh : n ≤ h) (Φ : ℕ → sProp M) : left h n Φ = left (h + 1) n Φ := by
  rw [left_nil hh, left_nil (by omega)]

theorem pure_sep {M : Type} [URA M] {φ : Prop} {P Q : sProp M} (h : φ → P ⊢ Q) : iprop(⌜φ⌝ ∗ P) ⊢ Q := by
  iintro ⟨%hφ, H⟩
  iapply (h hφ); iexact H

/-- A step of the run: it takes `A` out of what is held and gives `B` back; `C` stays aside. -/
theorem step {M : Type} [URA M] {A B R' R : sProp M} (hs : A ⊢ iprop((B -∗ R') -∗ R)) (C : sProp M) {P : sProp M} (hP : P ⊢ iprop(A ∗ C)) (hk : iprop(B ∗ C) ⊢ R') : P ⊢ R := by
  iintro HP
  ihave HP := hP $$ HP
  icases HP with ⟨HA, HC⟩
  iapply hs $$ HA
  iintro HB
  iapply hk
  isplitl [HB]; · iexact HB
  iexact HC

theorem credit_x (o : Fin 3 → ℕ) (inb : ∀ a, o a + S1x256x1024.size a ≤ S2x256x1024.size a) :
    ((xM.slice (Rect.unit (s := S2x256x1024) o S1x256x1024.size inb) (fun _ => rfl)).squeeze S256x1024 squeezes_S1x256x1024_S256x1024).view.dmaCredit = Nx := rfl
theorem credit_a (o : Fin 3 → ℕ) (inb : ∀ a, o a + S1x256x1024.size a ≤ S2x256x1024.size a) :
    ((aM.slice (Rect.unit (s := S2x256x1024) o S1x256x1024.size inb) (fun _ => rfl)).squeeze S256x1024 squeezes_S1x256x1024_S256x1024).view.dmaCredit = Na := rfl

/-- The end of a trip: the freed row slot is credited, if a later hop will need it. -/
theorem trip_end (t : Fin k0_t1_loop.trips) {W : sProp 𝕄} (hh : t.val < 8) :
    (¬k0_cond4 t = 1#1) → At D K ι c (codes4 t.val ++ codesFrom (t.val + 1)) iprop(XPre D c (t.val + 1) ∗ XPos c (min (t.val + 1) 7) ∗ Back c t.val)
      iprop(APre D c (t.val + 1) ∗ APend c (t.val + 1) ∗ Heard c (t.val + 1)) (Stock c (t.val + 1) t.val (t.val + 1) t.val) W ⊢ St D K ι c W (t.val + 1) := by
  intro h4
  have h6 : ¬t.val < 6 := fun e => h4 ((cond4_iff t).mpr e)
  have hB : Back c t.val ⊢ (Spare c (t.val + 1) : sProp 𝕄) := by
    unfold Back Spare
    rw [if_neg (by omega : ¬t.val + 1 < 7)]
    by_cases h7 : t.val < 7
    · rw [if_pos h7, show t.val + 2 = 8 by omega]; exact sep_elim_left
    · rw [if_neg h7]
  unfold St At Stock codes4
  rw [if_neg h6, List.nil_append, show t.val + 1 - 1 = t.val by omega, left_skip (h := t.val) (n := 6) (by omega)]
  iintro ⟨HP, HO, ⟨HX, HXp, HB⟩, HA, HS, HW⟩
  isplitl [HP]; · iexact HP
  isplitl [HO]; · iexact HO
  isplitl [HX HXp HB]
  · isplitl [HX]; · iexact HX
    isplitl [HXp]; · iexact HXp
    iapply hB; iexact HB
  isplitl [HA]; · iexact HA
  isplitl [HS]; · iexact HS
  iexact HW

set_option maxHeartbeats 2000000 in
/-- One trip takes the state between hops to the next. -/
theorem trip (t : Fin k0_t1_loop.trips) (v13 v24 w1 : BitVec 32) :
    St D K ι c (Wins D c arg1 arg2 arg3 arg4) t.val
      ⊢ Run c (k0_t1_body arg0 harg0 arg1 harg1 arg2 harg2 arg3 harg3 arg4 harg4 arg5 harg5 xM hx' aM ha' cc0_scratch2 cc0_scratch3 cc0_scratch4 cc0_scratch5
          cc0_scratch6 cc0_scratch7 c v13 v24 w1 t ()) (fun _ => St D K ι c (Wins D c arg1 arg2 arg3 arg4) (t.val + 1)) := by
  have hh : t.val < 8 := t.isLt.trans_eq trips_eq
  have hF2 : From (10 * t.val + 14) (codes2 t.val ++ codesFrom (t.val + 1)) := (from2 hh).append ((fromAll _).mono (by omega))
  have hF3 : From (10 * t.val + 16) (codes3 t.val ++ codesFrom (t.val + 1)) := (from3 hh).append ((fromAll _).mono (by omega))
  have hF4 : From (10 * t.val + 19) (codes4 t.val ++ codesFrom (t.val + 1)) := (from4 hh).append ((fromAll _).mono (by omega))
  unfold k0_t1_body
  refine run_bind c (fun r => iprop(⌜r.2.2 = heads D c (rows D t.val c)⌝ ∗ At D K ι c (codes2 t.val ++ codesFrom (t.val + 1))
    iprop(XMid D c t.val ∗ XPos c t.val ∗ Spare c t.val) iprop(APre D c t.val ∗ APend c t.val ∗ Heard c t.val) (Stock c (t.val + 1) t.val t.val (t.val - 1)) (Wins D c arg1 arg2 arg3 arg4))) ?_ ?_
  · unfold St At Stock
    rw [Nat.min_eq_left (by omega : t.val ≤ 7)]
    have hp : (XPos c t.val : sProp 𝕄) ⊢ iprop(XPos c t.val ∗ reached EC (cell c (xsS t.val)) (t.val / 2)) := by
      unfold XPos
      iintro ⟨H1, H2, H3, H4⟩
      ihave H1 := (pos_reached c _ _) $$ H1
      icases H1 with ⟨H1, Hr⟩
      isplitl [H1 H2 H3 H4]
      · isplitl [H1]; · iexact H1
        isplitl [H2]; · iexact H2
        isplitl [H3]; · iexact H3
        iexact H4
      iexact Hr
    iintro ⟨#HP, HO, ⟨HX, HXp, HSp⟩, HA, ⟨⟨Hxc, Hxt⟩, HS⟩, HW⟩
    ihave HXp := hp $$ HXp
    icases HXp with ⟨HXp, Hr⟩
    have hPers : Pers D K ι c ⊢ (iprop(Invs D K ∗ levAts (L 100) lv) : sProp 𝕄) := by
      unfold Pers; iintro ⟨H1, H2, -⟩; isplitl [H1] <;> iassumption
    ihave HP2 := hPers $$ HP
    icases HP2 with ⟨HI, Hlev⟩
    iapply (part1_run D K c t v24 0#32 1#32) $$ [HI Hlev HO HX Hxc Hxt Hr HW]
    · isplitl [HI]; · iexact HI
      isplitl [Hlev]; · iexact Hlev
      isplitl [HO]; · iexact HO
      isplitl [HX]; · iexact HX
      isplitl [Hxc]; · iexact Hxc
      isplitl [Hxt]; · iexact Hxt
      isplitl [Hr]; · iexact Hr
      iexact HW
    iintro %a %b ⟨HO, HX, Hxc, Hxt, HW⟩
    isplitr; · ipureintro; rfl
    isplitr; · iexact HP
    isplitl [HO]; · iexact HO
    isplitl [HX HXp HSp]
    · isplitl [HX]; · iexact HX
      isplitl [HXp]; · iexact HXp
      iexact HSp
    isplitl [HA]; · iexact HA
    isplitl [Hxc Hxt HS]
    · isplitl [Hxc Hxt]
      · isplitl [Hxc]; · iexact Hxc
        iexact Hxt
      iexact HS
    iexact HW
  intro ⟨a, b, v93⟩
  refine pure_sep (φ := v93 = heads D c (rows D t.val c)) ?_
  rintro rfl
  simp only [semSignalWord, semWaitWord, Prog.lift, Prog.bind_op, Prog.bind_ret, Prog.pure_eq_ret]
  -- the sum arrives
  refine run_cases c (At D K ι c (codes3 t.val ++ codesFrom (t.val + 1))
    iprop(XMid D c t.val ∗ XPos c t.val ∗ Spare c t.val) iprop(Acc D c t.val ∗ APend c t.val ∗ Heard c t.val) (Stock c (t.val + 1) t.val t.val t.val) (Wins D c arg1 arg2 arg3 arg4)) ?_ ?_ ?_
  · -- the sum moves on
    refine step (sum_moves D K ι c hh hF3 (k0_off5_eq t) (k0_off13_eq t) (k0_off12_eq t) (sem_a_send (k0_off10_eq t) _) (sem_a_recv (k0_off11_eq t) _) sem_ac (dev7 c _) rfl)
      iprop(Pers D K ι c ∗ (XMid D c t.val ∗ XPos c t.val ∗ Spare c t.val) ∗ Stock c (t.val + 1) t.val (t.val + 1) t.val ∗ Wins D c arg1 arg2 arg3 arg4) ?_ ?_
    · unfold At Stock
      rw [left_pop hh (aCred c), left_pop hh (aTok c), left_pop hh (wTok c)]
      iintro ⟨#HP, HO, HX, ⟨HA1, HA2, HA3⟩, ⟨HS1, HS2, ⟨⟨Hac, HS3⟩, ⟨Hat, HS4⟩, ⟨Hwt, HS5⟩⟩, HS6⟩, HW⟩
      isplitl [HO HA1 HA2 HA3 Hac Hat Hwt]
      · isplitr; · iexact HP
        isplitl [HO]; · iexact HO
        isplitl [HA1]; · iexact HA1
        isplitl [HA2]; · iexact HA2
        isplitl [HA3]; · iexact HA3
        isplitl [Hac]; · iexact Hac
        isplitl [Hat]; · iexact Hat
        iexact Hwt
      isplitr; · iexact HP
      isplitl [HX]; · iexact HX
      isplitl [HS1 HS2 HS3 HS4 HS5 HS6]
      · isplitl [HS1]; · iexact HS1
        isplitl [HS2]; · iexact HS2
        isplitl [HS3 HS4 HS5]
        · isplitl [HS3]; · iexact HS3
          isplitl [HS4]; · iexact HS4
          iexact HS5
        iexact HS6
      iexact HW
    refine .trans (Q := At D K ι c (codes4 t.val ++ codesFrom (t.val + 1)) iprop(XMid D c t.val ∗ XPos c t.val ∗ Spare c t.val)
      iprop(APre D c (t.val + 1) ∗ APend c (t.val + 1) ∗ Heard c (t.val + 1)) (Stock c (t.val + 1) t.val (t.val + 1) t.val) (Wins D c arg1 arg2 arg3 arg4)) ?_ ?_
    · unfold At
      rw [show APre D c (t.val + 1) = Pending c t.val from rfl]
      iintro ⟨⟨HO, HA1, HA2, HA3⟩, HP, HX, HS, HW⟩
      isplitl [HP]; · iexact HP
      isplitl [HO]; · iexact HO
      isplitl [HX]; · iexact HX
      isplitl [HA1 HA2 HA3]
      · isplitl [HA1]; · iexact HA1
        isplitl [HA2]; · iexact HA2
        iexact HA3
      isplitl [HS]; · iexact HS
      iexact HW
    -- the next rows arrive
    refine run_cases c (At D K ι c (codes4 t.val ++ codesFrom (t.val + 1)) iprop(XPre D c (t.val + 1) ∗ XPos c (min (t.val + 1) 7) ∗ Back c t.val)
      iprop(APre D c (t.val + 1) ∗ APend c (t.val + 1) ∗ Heard c (t.val + 1)) (Stock c (t.val + 1) t.val (t.val + 1) t.val) (Wins D c arg1 arg2 arg3 arg4)) ?_ ?_ ?_
    · -- the freed slot is credited
      refine run_cases c (St D K ι c (Wins D c arg1 arg2 arg3 arg4) (t.val + 1)) ?_ ?_ (trip_end D K ι c t hh)
      · iintro H; iapply (run_ret c); iexact H
      · intro h4
        have h6 := (cond4_iff t).mp h4
        unfold St At Stock Back Spare codes4
        rw [if_pos h6, if_pos (by omega : t.val < 7), if_pos (by omega : t.val + 1 < 7), Nat.min_eq_left (by omega : t.val + 1 ≤ 7), left_pop h6 (xcTok c), show t.val + 1 - 1 = t.val by omega]
        iintro ⟨#HP, HO, ⟨HX, HXp, HB, Hr⟩, HA, ⟨HS1, ⟨Ht, HS2⟩, HS3⟩, HW⟩ HK
        iapply (rows_credit D K ι c h6 sem_xc (dev8 c _) rfl) $$ [HO HXp HB Hr Ht]
        · isplitr; · iexact HP
          isplitl [HO]; · iexact HO
          isplitl [HXp]; · iexact HXp
          isplitl [HB]; · iexact HB
          isplitl [Hr]; · iexact Hr
          iexact Ht
        iintro ⟨HO, HXp⟩
        iapply HK
        isplitr; · iexact HP
        isplitl [HO]; · iexact HO
        isplitl [HX HXp]
        · isplitl [HX]; · iexact HX
          isplitl [HXp]; · iexact HXp
          iempintro
        isplitl [HA]; · iexact HA
        isplitl [HS1 HS2 HS3]
        · isplitl [HS1]; · iexact HS1
          isplitl [HS2]; · iexact HS2
          iexact HS3
        iexact HW
    · intro h3
      have h7 := (cond3_iff t).mp h3
      unfold At Back Spare
      rw [if_pos h7, if_pos h7, Nat.min_eq_left (by omega : t.val + 1 ≤ 7)]
      iintro ⟨#HP, HO, ⟨HX, HXp, -⟩, HA, HS, HW⟩ HK
      iapply (rows_arrive D K ι c h7 hF4 (sem_x_recv (k0_off14_eq t) _) (sem_x_send (k0_off17_eq t) _) (credit_x _ _) (credit_x _ _)) $$ [HO HX HXp]
      · isplitr; · iexact HP
        isplitl [HO]; · iexact HO
        isplitl [HX]; · iexact HX
        iexact HXp
      iintro ⟨HO, HX, HXp, HB⟩
      iapply HK
      isplitr; · iexact HP
      isplitl [HO]; · iexact HO
      isplitl [HX HXp HB]
      · isplitl [HX]; · iexact HX
        isplitl [HXp]; · iexact HXp
        iexact HB
      isplitl [HA]; · iexact HA
      isplitl [HS]; · iexact HS
      iexact HW
    · intro h3
      have h7 : t.val = 7 := by
        by_contra h; exact h3 ((cond3_iff t).mpr (by omega))
      unfold At Back Spare XMid XPre
      rw [h7]
      simp only [if_neg (by decide : ¬(7 : ℕ) < 7)]
      iintro ⟨HP, HO, ⟨⟨HX, Hxc⟩, HXp, HB⟩, HA, HS, HW⟩
      isplitl [HP]; · iexact HP
      isplitl [HO]; · iexact HO
      isplitl [HX Hxc HXp HB]
      · isplitl [HX Hxc]
        · isplitl [Hxc]; · iexact Hxc
          iexact HX
        isplitl [HXp]; · iexact HXp
        iexact HB
      isplitl [HA]; · iexact HA
      isplitl [HS]; · iexact HS
      iexact HW
  · intro h2
    have h0 := (cond2_iff t).mp h2
    obtain ⟨j, hj⟩ : ∃ j, t.val = j + 1 := ⟨t.val - 1, by omega⟩
    unfold At Stock codes2
    rw [if_pos h0, hj, show APre D c (j + 1) = Pending c j from rfl, show j + 1 - 1 = j by omega, left_pop (h := j) (n := 7) (by omega)]
    iintro ⟨#HP, HO, HX, ⟨HA1, HA2, HA3⟩, ⟨HS1, HS2, HS3, ⟨Hat, HS4⟩⟩, HW⟩ HK
    have hp : (APend c (j + 1) : sProp 𝕄) ⊢ iprop(APend c (j + 1) ∗ reached EC (cell c (arS (j + 2))) ((j + 1) / 2)) := by
      unfold APend
      iintro ⟨H1, H2⟩
      ihave H2 := (pos_reached c _ _) $$ H2
      icases H2 with ⟨H2, Hr⟩
      isplitl [H1 H2]
      · isplitl [H1]; · iexact H1
        iexact H2
      iexact Hr
    ihave HA2 := hp $$ HA2
    icases HA2 with ⟨HA2, Hr⟩
    iapply (sum_arrives D K ι c (j := j) (by omega) (l := codes3 (j + 1) ++ codesFrom (j + 1 + 1)) (by rw [← hj]; exact hF3.mono (by omega))
      (sem_a_send (h := j) (by rw [k0_off6_eq t, hj, show (j + 1 + 1) % 2 = j % 2 by omega]) _) (sem_a_recv (by rw [k0_off9_eq t, hj]) _) sem_ac (dev6 c _) rfl (credit_a _ _) (credit_a _ _)) $$ [HO HA1 Hr Hat]
    · isplitr; · iexact HP
      isplitl [HO]; · iexact HO
      isplitl [HA1]; · iexact HA1
      isplitl [Hr]; · iexact Hr
      iexact Hat
    iintro ⟨HO, HA1⟩
    iapply HK
    isplitr; · iexact HP
    isplitl [HO]; · iexact HO
    isplitl [HX]; · iexact HX
    isplitl [HA1 HA2 HA3]
    · isplitl [HA1]; · iexact HA1
      isplitl [HA2]; · iexact HA2
      iexact HA3
    isplitl [HS1 HS2 HS3 HS4]
    · isplitl [HS1]; · iexact HS1
      isplitl [HS2]; · iexact HS2
      isplitl [HS3]; · iexact HS3
      iexact HS4
    iexact HW
  · intro h2
    have h0 : t.val = 0 := by
      by_contra h; exact h2 ((cond2_iff t).mpr (by omega))
    unfold codes2
    rw [h0]
    exact .rfl

end Cert.KernelIdeal.Pass

end
-- ==== Proof.Body.lean ====
/-
  The whole run of the kernel's body on one device: the greeting of the two neighbours, the first credits, the eight hops, the
  last arrival and the result.
-/
module

public import proofs.«01_k».proof.Proof.Trip

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Cert.KernelIdeal Cert.KernelIdeal.Gen

variable {F : FTy → Type} [FloatOps F]

local notation "𝕄" => MT nD τ sig ℕ (Elt F) ℕ UU ℕ

variable (D : Dev nD → Inp F) (K : GSem nD τ sig → ℕ) (ι : Dev nD × Fin 2 → ℕ) (c : Dev nD)

variable {arg0 : Memref sig .tc .vmem S256x1024 .bf16} {harg0 : arg0.IsWhole} {arg1 : Memref sig .tc .vmem S8x1024x128 .bf16} {harg1 : arg1.IsWhole}
  {arg2 : Memref sig .tc .vmem S8x128x1024 .bf16} {harg2 : arg2.IsWhole} {arg3 : Memref sig .tc .vmem S8x4096x128 .bf16} {harg3 : arg3.IsWhole}
  {arg4 : Memref sig .tc .vmem S8x4096x128 .bf16} {harg4 : arg4.IsWhole} {arg5 : Memref sig .tc .vmem S256x1024 .f32} {harg5 : arg5.IsWhole}
  {hx' : xM.IsWhole} {ha' : aM.IsWhole}

/-- The invariants and the levels. -/
def Base : sProp 𝕄 := iprop(Invs D K ∗ levAts (L 100) lv ∗ SlotInvs ι)
instance Base_persistent : BI.Persistent (Base D K ι) := by unfold Base; infer_instance

/-- What the greeting takes: the two credits, the two tokens, the place at the barrier, and that all cells concerned are open. -/
def Greet : sProp 𝕄 :=
  iprop((credOf c .barP 0 ∗ credOf c .barN 0) ∗ (tokOf c .barP 0 ∗ tokOf c .barN 0) ∗ atPos EC (cell c barS) 0 ∅ 0
    ∗ reached EC (cell (prv c) barS) 0 ∗ reached EC (cell (nxt c) barS) 0 ∗ reached EC (cell c xcS) 0 ∗ reached EC (cell c acS) 0)

theorem mayWait_bar {O : CellTallies nD τ sig ℕ} (l : List (Pk × ℕ)) (hl : From 9 l) (hO : O = owed c l) :
    (levAts (L 100) lv : sProp 𝕄) ⊢ MayWait (c : Thread nD τ) barS 1 O := by
  subst hO; exact mayWait_owed c barS hl (by decide) (by decide)

theorem first_late : From 9 ([(Pk.xc, 0), (Pk.ac, 0)] ++ codesFrom 0) :=
  From.append (.cons ⟨by decide, by decide⟩ (.cons ⟨by decide, by decide⟩ (.nil _))) ((fromAll 0).mono (by decide))

set_option maxHeartbeats 1000000 in
/-- The greeting: both neighbours are told that this device's cells are open, and both have told it so. -/
theorem greet_run {Q : (Σ' (_ : Dev nD) (_ : BitVec 32) (_ : BitVec 32), BitVec 32) → sProp 𝕄} :
    iprop(Base D K ι ∗ ow c codes ∗ Greet c)
      ⊢ iprop((∀ a b e, ow c ([(.xc, 0), (.ac, 0)] ++ codesFrom 0) ∗ atPos EC (cell c barS) 1 ∅ 0 ∗ reached EC (cell (prv c) xcS) 0 ∗ reached EC (cell (prv c) acS) 0 -∗ Q ⟨c, a, b, e⟩)
        -∗ Run c (k0_part2 arg0 harg0 arg1 harg1 arg2 harg2 arg3 harg3 arg4 harg4 arg5 harg5 xM hx' aM ha' cc0_scratch2 cc0_scratch3 cc0_scratch4 cc0_scratch5
          cc0_scratch6 cc0_scratch7) Q) := by
  rw [k0_part2_eq_skeleton]; unfold k0_part2_skel
  simp only [semSignalWord, semWaitWord, Prog.lift, Prog.bind_op, Prog.bind_ret, Prog.pure_eq_ret, wp_deviceId]
  unfold Base Greet
  iintro ⟨⟨#HI, #Hlev, -⟩, HO, ⟨⟨Hc1, Hc2⟩, ⟨Ht1, Ht2⟩, Hat, #HrP, #HrN, #Hrx, #Hra⟩⟩ HK
  have ec : (codes : List (Pk × ℕ)) = (.barP, 0) :: (.barN, 0) :: ([(.xc, 0), (.ac, 0)] ++ codesFrom 0) := rfl
  rw [ec]
  ihave HIp := (Invs_bar D K (prv c)) $$ HI
  iapply (wp_credit D K c .barP 0 _ (dev1 c _) sem_bar rfl rfl (by show 1 ∈ (Rd D).duties (cell (prv c) barS) 0; rw [duties_bar]; decide)
    (amount_bar D (prv c) 0 1) (P := iprop(emp)) (by show (Rd D).payload (cell (prv c) barS) 0 1 = _; rw [payload_bar]; unfold barPay; rw [if_neg (by decide)])) $$ [HIp HO Ht1]
  · isplitl [HIp]; · iexact HIp
    isplitl [HO]; · iexact HO
    isplitl [Ht1]; · iexact Ht1
    isplitr; · iempintro
    iexact HrP
  iintro HO
  ihave HIn := (Invs_bar D K (nxt c)) $$ HI
  iapply (wp_credit D K c .barN 0 _ (dev2 c _) sem_bar rfl rfl (by show 0 ∈ (Rd D).duties (cell (nxt c) barS) 0; rw [duties_bar]; decide)
    (amount_bar D (nxt c) 0 0) (P := iprop(reached EC (cell c xcS) 0 ∗ reached EC (cell c acS) 0))
    (by show (Rd D).payload (cell (nxt c) barS) 0 0 = _; rw [payload_bar]; unfold barPay; rw [if_pos rfl, prv_nxt])) $$ [HIn HO Ht2]
  · isplitl [HIn]; · iexact HIn
    isplitl [HO]; · iexact HO
    isplitl [Ht2]; · iexact Ht2
    isplitr
    · isplitr; · iexact Hrx
      iexact Hra
    iexact HrN
  iintro HO
  unfold ow
  icases HO with ⟨%W, HO⟩
  have hcr : iprop(credOf c .barP 0 ∗ credOf c .barN 0) ⊢ (cred (tallyAt (cell c barS) 1 2) : sProp 𝕄) :=
    ((cred_add _ _).2).trans (Entails.of_eq (congrArg cred (tallyAt_add (cell c barS) 1 1 1)))
  ihave Hc := hcr $$ [Hc1 Hc2]
  · isplitl [Hc1] <;> iassumption
  ihave HIc := (Invs_bar D K c) $$ HI
  iapply (Rounds.wp_wait_rest_token 𝒱₀ EC (Rd D) (c : Thread nD τ) none (κ := K (cell c barS)) (sm := barS) (k' := 2)
    (wpE_semWait_eq 𝒱₀ (c : Thread nD τ) none Set.univ) (Set.mem_univ _) 1
    (O := owed c ([(.xc, 0), (.ac, 0)] ++ codesFrom 0)) (W := W) (R := 0) (m := 0) (T := ∅) ((Nat.zero_add _).trans (expect_bar D c).symm)) $$ [HIc Hc HO Hat]
  · isplitl [HIc]; · iexact HIc
    isplitl [Hc]; · iexact Hc
    isplitl [HO]; · iexact HO
    isplitr; · iapply (mayWait_bar c _ first_late rfl); iexact Hlev
    iexact Hat
  iintro ⟨HO, Hat, -, HP⟩
  ihave HP := (rest_bar D c) $$ HP
  iapply (run_ret c)
  iapply HK
  isplitl [HO]; · iexists _; iexact HO
  isplitl [Hat]; · iexact Hat
  iexact HP

/-- The places at the ring's semaphores before the first hop. -/
def Places : sProp 𝕄 := iprop(pos c xcS 0 ∗ XPos c 0 ∗ APend c 0 ∗ APend c 1 ∗ atPos EC (cell c acS) 0 ∅ 0)
/-- The release counts before the first hop. -/
def Readers : sProp 𝕄 := iprop(readerAt ES (c, par 0) 0 ∗ readerAt ES (c, par 1) 0)
/-- The four slots, with any contents. -/
def Slots4 : sProp 𝕄 := iprop((slotAny xM c 0 ∗ slotAny xM c 1) ∗ slotAny aM c 0 ∗ slotAny aM c 1)

/-- What the first credits and stores take. -/
def Start (a0 : Memref sig .tc .vmem S256x1024 .bf16) : sProp 𝕄 :=
  iprop(ow c ([(.xc, 0), (.ac, 0)] ++ codesFrom 0) ∗ reached EC (cell (prv c) xcS) 0 ∗ (tokOf c .xc 0 ∗ tokOf c .ac 0)
    ∗ Places c ∗ Readers c ∗ Slots4 c ∗ owns (c : Thread nD τ) a0 fullShare (D c).x)

theorem heard_zero : atPos EC (cell c acS) 0 ∅ 0 ⊢ (Heard c 0 : sProp 𝕄) := by
  unfold Heard
  iintro H
  iexists ∅
  isplitr; · ipureintro; exact ⟨Finset.empty_subset _, Nat.le_refl _⟩
  isplitl [H]; · iexact H
  rw [bigSep_empty]
  iempintro

set_option maxHeartbeats 1000000 in
/-- The first credits are given and the two slots of hop 0 are filled: the state before hop 0. -/
theorem start_run {α : Type} {Q : α → sProp 𝕄} {S W : sProp 𝕄} (hS : S = Stock c 0 0 0 0) {sg sg' : Sem sig} (hsg : SemLoc.reg sg = xcS) (hsg' : SemLoc.reg sg' = acS)
    {d d' : Dev nD} (hd : d = prv c) (hd' : d' = prv c) {n n' : ℤ} (hn : n = 1) (hn' : n' = 1)
    {o0 : Fin 2 → ℕ} (ho0 : ∀ a, o0 a = 0) {o : Fin 3 → ℕ} (ho : o = ![0 % 2, 0, 0])
    {inb0 : ∀ a, o0 a + S256x1024.size a ≤ S256x1024.size a} {i1 i2 i3 i4 : ∀ a, o a + S1x256x1024.size a ≤ S2x256x1024.size a} {l0 l1 l2 st1 st2 m1 m2}
    {kt : Prog (TpuEff nD τ sig (Elt F) Λ₀ .tc) α} :
    iprop(Pers D K ι c ∗ Start D c arg0 ∗ S ∗ W)
      ⊢ iprop((St D K ι c W 0 ∗ owns (c : Thread nD τ) arg0 fullShare (D c).x -∗ Run c kt Q)
        -∗ Run c (.op (.semSignal (d, .tc) sg n) fun _ => .op (.semSignal (d', .tc) sg' n') fun _ =>
          .op (.load arg0 (Rect.unit (s := S256x1024) o0 S256x1024.size inb0).toLoadRect l0) fun v34 =>
          .op (.load xM (Rect.unit (s := S2x256x1024) o S1x256x1024.size i1).toLoadRect l1) fun _ =>
          .op (.store xM (Rect.unit (s := S2x256x1024) o S1x256x1024.size i2) (k0_pay3 v34) Finset.univ st1 m1) fun _ =>
          .op (.load aM (Rect.unit (s := S2x256x1024) o S1x256x1024.size i3).toLoadRect l2) fun _ =>
          .op (.store aM (Rect.unit (s := S2x256x1024) o S1x256x1024.size i4) (k0_pay4 (F := F)) Finset.univ st2 m2) fun _ => kt) Q) := by
  subst hS
  unfold Pers Start Places Readers Slots4
  have hp : (XPos c 0 : sProp 𝕄) ⊢ iprop(XPos c 0 ∗ reached EC (cell c (xrS (0 + 1))) (0 / 2)) := by
    unfold XPos
    iintro ⟨H1, H2, H3, H4⟩
    ihave H3 := (pos_reached c _ _) $$ H3
    icases H3 with ⟨H3, Hr⟩
    isplitl [H1 H2 H3 H4]
    · isplitl [H1]; · iexact H1
      isplitl [H2]; · iexact H2
      isplitl [H3] <;> iassumption
    iexact Hr
  have hq : (APend c 0 : sProp 𝕄) ⊢ iprop(APend c 0 ∗ reached EC (cell c (arS (0 + 1))) (0 / 2)) := by
    unfold APend
    iintro ⟨H1, H2⟩
    ihave H2 := (pos_reached c _ _) $$ H2
    icases H2 with ⟨H2, Hr⟩
    isplitl [H1 H2]
    · isplitl [H1] <;> iassumption
    iexact Hr
  iintro ⟨⟨#HI, #Hlev, #HSi, #Hra⟩, ⟨HO, #Hrx, ⟨Ht1, Ht2⟩, ⟨Hpx, HXp, HA0, HA1, Hac⟩, ⟨Hr0, Hr1⟩, ⟨⟨Hx0, Hx1⟩, ⟨Ha0, Ha1⟩⟩, Hin⟩, HS, HW⟩ HK
  ihave HXp := hp $$ HXp
  icases HXp with ⟨HXp, Hxr⟩
  ihave HA0 := hq $$ HA0
  icases HA0 with ⟨HA0, #Har⟩
  ihave HIx := (Invs_ring D K (prv c) .xc 0 (by decide) (by decide)) $$ HI
  iapply (wp_credit D K c .xc 0 ((.ac, 0) :: codesFrom 0) hd hsg hn rfl (by show 0 ∈ (Rd D).duties (cell (prv c) xcS) 0; rw [duties_xc D _ (by decide)]; decide)
    (amount_xc D (prv c) 0 0) (P := iprop(slotAny xM c 1 ∗ reached EC (cell c (xrS (0 + 1))) (0 / 2)))
    (by show (Rd D).payload (cell (prv c) xcS) 0 0 = _; rw [payload_xc]; unfold xcPay; rw [nxt_prv])) $$ [HIx HO Ht1 Hx1 Hxr]
  · isplitl [HIx]; · iexact HIx
    isplitl [HO]; · iexact HO
    isplitl [Ht1]; · iexact Ht1
    isplitl [Hx1 Hxr]
    · isplitl [Hx1] <;> iassumption
    iexact Hrx
  iintro HO
  ihave HSi1 := (SlotInvs_at ι c 1) $$ HSi
  imod (slot_release ES (ι := ι (c, par 1)) (Es := Set.univ) (S := slotAny aM c 1) (Set.mem_univ _) (slot_slot_false (slot_nonempty 1)) 0) $$ [HSi1 Hr1 Ha1] with ⟨Hr1, #Hrel⟩
  · isplitl [HSi1]; · iexact HSi1
    isplitl [Hr1] <;> iassumption
  have hfree : iprop(released ES (c, par 1) (0 + 1) ∗ reached EC (cell c (arS (0 + 1))) (0 / 2)) ⊢ (freeFact c 0 : sProp 𝕄) := by
    unfold freeFact; exact .rfl
  ihave #Hf := hfree $$ []
  · isplitr; · iexact Hrel
    iexact Har
  ihave HIa := (Invs_ring D K (prv c) .ac 0 (by decide) (by decide)) $$ HI
  iapply (wp_credit D K c .ac 0 (codesFrom 0) hd' hsg' hn' rfl (by show 0 ∈ (Rd D).duties (cell (prv c) acS) 0; rw [duties_ac]; decide)
    (amount_ac D (prv c) 0 0) (P := iprop(freeFact c 0 ∗ freeFact c 0))
    (by show (Rd D).payload (cell (prv c) acS) 0 0 = _; rw [payload_ac]; unfold acPay; rw [nxt_prv])) $$ [HIa HO Ht2]
  · isplitl [HIa]; · iexact HIa
    isplitl [HO]; · iexact HO
    isplitl [Ht2]; · iexact Ht2
    isplitr
    · isplitr; · iexact Hf
      iexact Hf
    iexact Hra
  iintro HO
  iapply (wp_load_block c ho0) $$ Hin; iintro Hin
  iapply (wp_load_any c ho) $$ Hx0; iintro %X1 Hx0
  iapply (wp_store_slot hx c ho) $$ Hx0; iintro Hx0
  iapply (wp_load_any c ho) $$ Ha0; iintro %X2 Ha0
  iapply (wp_store_slot ha c ho) $$ Ha0; iintro Ha0
  iapply HK
  isplitr [Hin]
  · unfold St At Pers
    isplitr
    · isplitr; · iexact HI
      isplitr; · iexact Hlev
      isplitr; · iexact HSi
      iexact Hra
    isplitl [HO]; · iexact HO
    isplitl [Hpx Hx0 HXp]
    · isplitl [Hpx Hx0]
      · unfold XPre; isplitl [Hpx]; · iexact Hpx
        iexact Hx0
      isplitl [HXp]; · iexact HXp
      unfold Spare; rw [if_pos (by decide)]; iempintro
    isplitl [HA0 HA1 Hac Hr0 Hr1 Ha0]
    · isplitl [HA1 Hr0 Hr1 Ha0]
      · unfold APre Acc Counts
        isplitl [Ha0]; · iexact Ha0
        isplitl [HA1]; · iexact HA1
        isplitl [Hr0 Hr1]
        · isplitl [Hr1]; · iexact Hr1
          iexact Hr0
        iexact Hf
      isplitl [HA0]; · iexact HA0
      iapply (heard_zero c); iexact Hac
    isplitl [HS]; · iexact HS
    iexact HW
  iexact Hin

/-- The state once the last sum's send is over. -/
def Last (W : sProp 𝕄) : sProp 𝕄 :=
  iprop(Pers D K ι c ∗ ow c [] ∗ (XPre D c 8 ∗ XPos c 7 ∗ slotAny xM c 8) ∗ (pos c (asS 7) 4 ∗ slotAny aM c 7 ∗ credOf c .ar 7 ∗ pos c (arS 8) 3)
    ∗ APend c 8 ∗ Heard c 8 ∗ W)

set_option maxHeartbeats 1000000 in
/-- From the first credits to the end of the last sum's send. -/
theorem hops_run {Q : PUnit → sProp 𝕄} (v13 v24 w1 : BitVec 32) :
    iprop(Pers D K ι c ∗ Start D c arg0 ∗ Stock c 0 0 0 0 ∗ Wins D c arg1 arg2 arg3 arg4)
      ⊢ iprop((Last D K ι c (Wins D c arg1 arg2 arg3 arg4) ∗ owns (c : Thread nD τ) arg0 fullShare (D c).x -∗ Q ⟨⟩)
        -∗ Run c (k0_part3 arg0 harg0 arg1 harg1 arg2 harg2 arg3 harg3 arg4 harg4 arg5 harg5 xM hx' aM ha' cc0_scratch2 cc0_scratch3 cc0_scratch4 cc0_scratch5
          cc0_scratch6 cc0_scratch7 c v13 v24 w1) Q) := by
  rw [k0_part3_eq_skeleton]; unfold k0_part3_skel
  simp only [semSignalWord, semWaitWord, Prog.lift, Prog.bind_op, Prog.bind_ret, Prog.pure_eq_ret]
  iintro H HK
  iapply (start_run D K ι c rfl sem_xc sem_ac (dev3 c _) (dev4 c _) rfl rfl zero2 rfl) $$ H
  iintro ⟨HSt, Hin⟩
  iapply (Scf.wp_for_bind frame (wpE (defs₀ (F := F)) 𝒱₀ (c : Thread nD τ) none) Set.univ _ _ _ k0_t1_ok PUnit.unit _
    (fun h _ => St D K ι c (Wins D c arg1 arg2 arg3 arg4) h) (fun k _ => trip D K ι c k v13 v24 w1)) $$ HSt
  iintro %_ HSt
  have e8 : Scf.trips k0_t1_loop.lb k0_t1_loop.ub k0_t1_loop.st = 8 := trips_eq
  rw [e8]
  unfold St At
  rw [show APre D c 8 = Pending c 7 from rfl, codesFrom_end]
  have hpd : (Pending c 7 : sProp 𝕄) ⊢ iprop(credOf c .as 7 ∗ credOf c .ar 7 ∗ pos c (asS 7) 3 ∗ pos c (arS 8) 3) := by
    unfold Pending APend
    iintro ⟨⟨H1, H2⟩, ⟨H3, H4⟩, -, -⟩
    isplitl [H1]; · iexact H1
    isplitl [H2]; · iexact H2
    isplitl [H3]; · iexact H3
    iexact H4
  have hPers : Pers D K ι c ⊢ (iprop(Invs D K ∗ levAts (L 100) lv) : sProp 𝕄) := by
    unfold Pers; iintro ⟨H1, H2, -⟩; isplitl [H1] <;> iassumption
  icases HSt with ⟨#HP, HO, HX, ⟨HA, HA8, HH⟩, -, HW⟩
  ihave HA := hpd $$ HA
  icases HA with ⟨Hc1, Hc2, Hp1, Hp2⟩
  ihave HI := hPers $$ HP
  icases HI with ⟨HI, Hlev⟩
  iapply (wp_copy K c D .as 7 (by decide) (by decide) [] (b := 100) (.nil _) (by decide) (by decide) (sem_a_send (h := 7) rfl _) (credit_a _ _)
    (expect_as D c (by decide)) (rest_as D c (by decide))) $$ [HI Hlev Hc1 HO Hp1]
  · isplitl [HI]; · iexact HI
    isplitl [Hlev]; · iexact Hlev
    isplitl [Hc1]; · iexact Hc1
    isplitl [HO]; · iexact HO
    iexact Hp1
  iintro ⟨HO, Hp1, Hslot⟩
  iapply (run_ret c)
  iapply HK
  isplitr [Hin]
  · unfold Last
    unfold asPay
    isplitr; · iexact HP
    isplitl [HO]; · iexact HO
    isplitl [HX]; · iexact HX
    isplitl [Hp1 Hslot Hc2 Hp2]
    · isplitl [Hp1]; · iexact Hp1
      isplitl [Hslot]; · iexact Hslot
      isplitl [Hc2] <;> iassumption
    isplitl [HA8]; · iexact HA8
    isplitl [HH] <;> iassumption
  iexact Hin

/-! ## The end -/

/-- All the ring's semaphores of a device, and its barrier, at zero. -/
def Zeros : sProp 𝕄 :=
  iprop(semVal (cell c barS) 0 ∗ semVal (cell c xcS) 0 ∗ semVal (cell c acS) 0 ∗ (semVal (cell c (xsS 0)) 0 ∗ semVal (cell c (xsS 1)) 0) ∗ (semVal (cell c (xrS 0)) 0 ∗ semVal (cell c (xrS 1)) 0)
    ∗ (semVal (cell c (asS 0)) 0 ∗ semVal (cell c (asS 1)) 0) ∗ (semVal (cell c (arS 0)) 0 ∗ semVal (cell c (arS 1)) 0))

/-- A cell past its last round is closed at zero. -/
theorem close_ring (k : Pk) (h : ℕ) (hk : k ≠ .barP) (hk' : k ≠ .barN) {s : SemLoc sig} (hs : k.sem h = s) {r : ℕ} (hR : ∀ r', r ≤ r' → (Rd D).duties (cell c s) r' = ∅) :
    iprop(Invs D K ∗ pos c s r) ⊢ (|={Set.univ}=> semVal (cell c s) 0 : sProp 𝕄) := by
  subst hs
  unfold pos
  iintro ⟨HI, Hp, -⟩
  ihave HI := (Invs_ring D K c k h hk hk') $$ HI
  iapply (Rounds.cell_close EC (Rd D) (g := cell c (k.sem h)) (κ := K (cell c (k.sem h))) (Set.mem_univ _) id hR)
  isplitl [HI] <;> iassumption

/-- The sum credits are all heard, so their round is over. -/
theorem close_heard : iprop(Invs D K ∗ Heard c 8) ⊢ (|={Set.univ}=> semVal (cell c acS) 0 : sProp 𝕄) := by
  unfold Heard
  iintro ⟨#HI, ⟨%S, %hS, Hat, -⟩⟩
  have eS : S = Finset.range 8 := Finset.eq_of_subset_of_card_le hS.1 (by rw [Finset.card_range]; exact hS.2)
  ihave HIa := (Invs_ring D K c .ac 0 (by decide) (by decide)) $$ HI
  imod (Rounds.fupd_skip EC (Rd D) (g := cell c acS) (κ := K (cell c acS)) (R := 0) (m := 8) (T := S) (by rw [duties_ac, eS]) (expect_ac D c).symm (Set.mem_univ _)) $$ [HIa Hat] with ⟨Hat, Hr⟩
  · isplitl [HIa]; · iexact HIa
    iexact Hat
  iapply (close_ring D K c .ac 0 (by decide) (by decide) rfl (later_ac D c))
  isplitr; · iexact HI
  unfold pos
  isplitl [Hat]; · iexact Hat
  iexact Hr

theorem close_bar : iprop(Invs D K ∗ atPos EC (cell c barS) 1 ∅ 0) ⊢ (|={Set.univ}=> semVal (cell c barS) 0 : sProp 𝕄) := by
  iintro ⟨HI, Hp⟩
  ihave HI := (Invs_bar D K c) $$ HI
  iapply (Rounds.cell_close EC (Rd D) (g := cell c barS) (κ := K (cell c barS)) (Set.mem_univ _) id (later_bar D c))
  isplitl [HI] <;> iassumption

set_option maxHeartbeats 1000000 in
/-- All cells closed. -/
theorem close_all :
    iprop(Invs D K ∗ atPos EC (cell c barS) 1 ∅ 0 ∗ pos c xcS 7 ∗ Heard c 8 ∗ XPos c 7 ∗ APend c 8 ∗ pos c (asS 7) 4 ∗ pos c (arS 8) 4) ⊢ (|={Set.univ}=> Zeros c : sProp 𝕄) := by
  unfold XPos APend Zeros
  iintro ⟨#HI, Hb, Hx, Hh, ⟨H1, H2, H3, H4⟩, ⟨H5, H6⟩, H7, H8⟩
  imod (close_bar D K c) $$ [Hb] with Hb
  · isplitr; · iexact HI
    iexact Hb
  imod (close_ring D K c .xc 0 (by decide) (by decide) rfl (later_xc D c)) $$ [Hx] with Hx
  · isplitr; · iexact HI
    iexact Hx
  imod (close_heard D K c) $$ [Hh] with Hh
  · isplitr; · iexact HI
    iexact Hh
  imod (close_ring D K c .xs 1 (by decide) (by decide) (s := xsS 1) (r := 3) rfl (later_xs D c 1)) $$ [H1] with H1
  · isplitr; · iexact HI
    iexact H1
  imod (close_ring D K c .xs 0 (by decide) (by decide) (s := xsS 0) (r := 4) rfl (later_xs D c 0)) $$ [H2] with H2
  · isplitr; · iexact HI
    iexact H2
  imod (close_ring D K c .xr 1 (by decide) (by decide) (s := xrS 0) (r := 3) rfl (later_xr D c 0)) $$ [H3] with H3
  · isplitr; · iexact HI
    iexact H3
  imod (close_ring D K c .xr 0 (by decide) (by decide) (s := xrS 1) (r := 4) rfl (later_xr D c 1)) $$ [H4] with H4
  · isplitr; · iexact HI
    iexact H4
  imod (close_ring D K c .as 0 (by decide) (by decide) (s := asS 0) (r := 4) rfl (later_as D c 0)) $$ [H5] with H5
  · isplitr; · iexact HI
    iexact H5
  imod (close_ring D K c .ar 0 (by decide) (by decide) (s := arS 1) (r := 4) rfl (later_ar D c 1)) $$ [H6] with H6
  · isplitr; · iexact HI
    iexact H6
  imod (close_ring D K c .as 1 (by decide) (by decide) (s := asS 1) (r := 4) rfl (later_as D c 1)) $$ [H7] with H7
  · isplitr; · iexact HI
    iexact H7
  imod (close_ring D K c .ar 1 (by decide) (by decide) (s := arS 0) (r := 4) rfl (later_ar D c 0)) $$ [H8] with H8
  · isplitr; · iexact HI
    iexact H8
  imodintro
  isplitl [Hb]; · iexact Hb
  isplitl [Hx]; · iexact Hx
  isplitl [Hh]; · iexact Hh
  isplitl [H1 H2]
  · isplitl [H2] <;> iassumption
  isplitl [H3 H4]
  · isplitl [H3] <;> iassumption
  isplitl [H5 H7]
  · isplitl [H5] <;> iassumption
  isplitl [H8] <;> iassumption

/-- What device `c` writes: the sum after the last hop. -/
def result : Vec F S256x1024 .f32 := k0_pay1 (sums D 8 c)

/-- What the body takes. -/
def BodyPre (a0 : Memref sig .tc .vmem S256x1024 .bf16) (a1 : Memref sig .tc .vmem S8x1024x128 .bf16) (a2 : Memref sig .tc .vmem S8x128x1024 .bf16)
    (a3 a4 : Memref sig .tc .vmem S8x4096x128 .bf16) (a5 : Memref sig .tc .vmem S256x1024 .f32) : sProp 𝕄 :=
  iprop(Base D K ι ∗ ow c codes ∗ Greet c ∗ (tokOf c .xc 0 ∗ tokOf c .ac 0) ∗ Places c ∗ Readers c ∗ Slots4 c ∗ Stock c 0 0 0 0
    ∗ owns (c : Thread nD τ) a0 fullShare (D c).x ∗ Wins D c a1 a2 a3 a4 ∗ ∃ X, owns (c : Thread nD τ) a5 fullShare X)
/-- What the body leaves. -/
def BodyPost (a0 : Memref sig .tc .vmem S256x1024 .bf16) (a1 : Memref sig .tc .vmem S8x1024x128 .bf16) (a2 : Memref sig .tc .vmem S8x128x1024 .bf16)
    (a3 a4 : Memref sig .tc .vmem S8x4096x128 .bf16) (a5 : Memref sig .tc .vmem S256x1024 .f32) : sProp 𝕄 :=
  iprop(ow c [] ∗ Zeros c ∗ Slots4 c ∗ owns (c : Thread nD τ) a0 fullShare (D c).x ∗ Wins D c a1 a2 a3 a4 ∗ owns (c : Thread nD τ) a5 fullShare (result D c))

/-- The four slots after the last hop. -/
theorem slots_back : iprop(slotPt hx c 7 fullShare (rows D 7 c) ∗ slotAny xM c 8 ∗ slotPt ha c 8 fullShare (sums D 8 c) ∗ slotAny aM c 7) ⊢ (Slots4 c : sProp 𝕄) := by
  unfold Slots4
  iintro ⟨H1, H2, H3, H4⟩
  ihave H1 := (slot_any hx c 7 (rows D 7 c)) $$ H1
  ihave H3 := (slot_any ha c 8 (sums D 8 c)) $$ H3
  isplitl [H1 H2]
  · isplitl [H2]; · iexact H2
    iexact H1
  isplitl [H3]; · iexact H3
  iexact H4

set_option maxHeartbeats 1000000 in
/-- The whole body. -/
theorem body_run :
    BodyPre D K ι c arg0 arg1 arg2 arg3 arg4 arg5
      ⊢ Run c (cc0__body arg0 harg0 arg1 harg1 arg2 harg2 arg3 harg3 arg4 harg4 arg5 harg5 xM hx' aM ha' cc0_scratch2 cc0_scratch3 cc0_scratch4 cc0_scratch5
          cc0_scratch6 cc0_scratch7) (fun _ => BodyPost D c arg0 arg1 arg2 arg3 arg4 arg5) := by
  rw [cc0__body_eq_skeleton]; unfold cc0__body_skel
  have hB : Base D K ι ⊢ (iprop(Invs D K ∗ levAts (L 100) lv) : sProp 𝕄) := by
    unfold Base; iintro ⟨H1, H2, -⟩; isplitl [H1] <;> iassumption
  refine run_bind c (fun r => iprop(⌜r.1 = c⌝ ∗ (Base D K ι ∗ reached EC (cell (prv c) acS) 0) ∗ atPos EC (cell c barS) 1 ∅ 0 ∗ Start D c arg0 ∗ Stock c 0 0 0 0
    ∗ Wins D c arg1 arg2 arg3 arg4 ∗ ∃ X, owns (c : Thread nD τ) arg5 fullShare X)) ?_ ?_
  · unfold BodyPre Start
    iintro ⟨#HB, HO, HG, Ht, Hp, Hr, Hs, HS, H0, HW, H5⟩
    iapply (greet_run D K ι c) $$ [HO HG]
    · isplitr; · iexact HB
      isplitl [HO] <;> iassumption
    iintro %a %b %e ⟨HO, Hat, Hx, Ha⟩
    isplitr; · ipureintro; rfl
    isplitl [Ha]
    · isplitr; · iexact HB
      iexact Ha
    isplitl [Hat]; · iexact Hat
    isplitl [HO Hx Ht Hp Hr Hs H0]
    · isplitl [HO]; · iexact HO
      isplitl [Hx]; · iexact Hx
      isplitl [Ht]; · iexact Ht
      isplitl [Hp]; · iexact Hp
      isplitl [Hr]; · iexact Hr
      isplitl [Hs]; · iexact Hs
      iexact H0
    isplitl [HS]; · iexact HS
    isplitl [HW]; · iexact HW
    iexact H5
  rintro ⟨d, a, b, e⟩
  refine pure_sep (φ := d = c) ?_
  rintro rfl
  refine run_bind d (fun _ => iprop(Last D K ι d (Wins D d arg1 arg2 arg3 arg4) ∗ owns (d : Thread nD τ) arg0 fullShare (D d).x ∗ atPos EC (cell d barS) 1 ∅ 0
    ∗ ∃ X, owns (d : Thread nD τ) arg5 fullShare X)) ?_ ?_
  · iintro ⟨⟨HB, Ha⟩, Hat, HSt, HS, HW, H5⟩
    iapply (hops_run D K ι d a b e) $$ [HB Ha HSt HS HW]
    · isplitl [HB Ha]
      · unfold Pers Base
        icases HB with ⟨H1, H2, H3⟩
        isplitl [H1]; · iexact H1
        isplitl [H2]; · iexact H2
        isplitl [H3] <;> iassumption
      isplitl [HSt]; · iexact HSt
      isplitl [HS] <;> iassumption
    iintro ⟨HL, H0⟩
    isplitl [HL]; · iexact HL
    isplitl [H0]; · iexact H0
    isplitl [Hat] <;> iassumption
  intro _
  simp only [semSignalWord, semWaitWord, Prog.lift, Prog.bind_op, Prog.bind_ret, Prog.pure_eq_ret]
  unfold Last Pers XPre
  iintro ⟨⟨⟨#HI, #Hlev, -⟩, HO, ⟨⟨Hxc, Hx7⟩, HXp, Hx8⟩, ⟨Hp1, Ha7, Hc, Hp2⟩, HA8, HH, HW⟩, H0, Hat, ⟨%X, H5⟩⟩
  iapply (wp_copy K d D .ar 7 (by decide) (by decide) [] (b := 100) (.nil _) (by decide) (by decide) (sem_a_recv (h := 8) rfl _) (credit_a _ _)
    (expect_ar D d (by decide)) (rest_ar D d (by decide))) $$ [Hc HO Hp2]
  · isplitr; · iexact HI
    isplitr; · iexact Hlev
    isplitl [Hc]; · iexact Hc
    isplitl [HO]; · iexact HO
    iexact Hp2
  iintro ⟨HO, Hp2, Ha8⟩
  unfold arPay
  iapply (wp_load_slot ha d (h := 8) rfl) $$ Ha8; iintro Ha8
  iapply (wp_load_block d zero2) $$ H5; iintro H5
  iapply (wp_store_block d zero2) $$ H5; iintro H5
  imod (close_all D K d) $$ [Hat Hxc HH HXp HA8 Hp1 Hp2] with HZ
  · isplitr; · iexact HI
    isplitl [Hat]; · iexact Hat
    isplitl [Hxc]; · iexact Hxc
    isplitl [HH]; · iexact HH
    isplitl [HXp]; · iexact HXp
    isplitl [HA8]; · iexact HA8
    isplitl [Hp1]; · iexact Hp1
    iexact Hp2
  iapply (run_ret d)
  unfold BodyPost
  isplitl [HO]; · iexact HO
  isplitl [HZ]; · iexact HZ
  isplitl [Hx8 Hx7 Ha8 Ha7]
  · iapply (slots_back D d)
    isplitl [Hx7]; · iexact Hx7
    isplitl [Hx8]; · iexact Hx8
    isplitl [Ha8] <;> iassumption
  isplitl [H0]; · iexact H0
  isplitl [HW]; · iexact HW
  iexact H5

end Cert.KernelIdeal.Pass

end
-- ==== Proof.Region.lean ====
/-
  The launch's region: the ring's cells are opened on entry, the two scratch buffers are split into their slots, the body runs,
  and all is handed back with the result in its array.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.SiteBlocks (L lv mem_L mem_L')
open Cert.KernelIdeal Cert.KernelIdeal.Gen

variable {F : FTy → Type} [FloatOps F]

local notation "𝕄" => MT nD τ sig ℕ (Elt F) ℕ UU ℕ

/-! ## What the region takes and leaves -/

/-- The ring's semaphores, numbered. -/
def osem : Fin 10 → SemLoc sig
  | 0 => xcS | 1 => acS | 2 => xsS 0 | 3 => xsS 1 | 4 => xrS 0 | 5 => xrS 1 | 6 => asS 0 | 7 => asS 1 | 8 => arS 0 | 9 => arS 1

/-- All of them at zero. -/
def Sems (c : Dev nD) : sProp 𝕄 :=
  iprop(semVal (cell c xcS) 0 ∗ semVal (cell c acS) 0 ∗ (semVal (cell c (xsS 0)) 0 ∗ semVal (cell c (xsS 1)) 0) ∗ (semVal (cell c (xrS 0)) 0 ∗ semVal (cell c (xrS 1)) 0)
    ∗ (semVal (cell c (asS 0)) 0 ∗ semVal (cell c (asS 1)) 0) ∗ (semVal (cell c (arS 0)) 0 ∗ semVal (cell c (arS 1)) 0))

/-- The right to open each of them. -/
def Opens (c : Dev nD) : sProp 𝕄 :=
  iprop(openTok EC (cell c xcS) ∗ openTok EC (cell c acS) ∗ (openTok EC (cell c (xsS 0)) ∗ openTok EC (cell c (xsS 1))) ∗ (openTok EC (cell c (xrS 0)) ∗ openTok EC (cell c (xrS 1)))
    ∗ (openTok EC (cell c (asS 0)) ∗ openTok EC (cell c (asS 1))) ∗ (openTok EC (cell c (arS 0)) ∗ openTok EC (cell c (arS 1))))

/-- Ten in a row, and in pairs. -/
theorem ten {M : Type} [URA M] (a b c d e f g h i j : sProp M) :
    iprop(a ∗ b ∗ c ∗ d ∗ e ∗ f ∗ g ∗ h ∗ i ∗ j) = (iprop(a ∗ b ∗ (c ∗ d) ∗ (e ∗ f) ∗ (g ∗ h) ∗ (i ∗ j)) : sProp M) := by
  have h1 : iprop(a ∗ b ∗ c ∗ d ∗ e ∗ f ∗ g ∗ h ∗ i ∗ j) ⊢ (iprop(a ∗ b ∗ (c ∗ d) ∗ (e ∗ f) ∗ (g ∗ h) ∗ (i ∗ j)) : sProp M) := by
    iintro ⟨H1, H2, H3, H4, H5, H6, H7, H8, H9, H10⟩
    isplitl [H1]; · iexact H1
    isplitl [H2]; · iexact H2
    isplitl [H3 H4]
    · isplitl [H3]; · iexact H3
      iexact H4
    isplitl [H5 H6]
    · isplitl [H5]; · iexact H5
      iexact H6
    isplitl [H7 H8]
    · isplitl [H7]; · iexact H7
      iexact H8
    isplitl [H9]; · iexact H9
    iexact H10
  have h2 : iprop(a ∗ b ∗ (c ∗ d) ∗ (e ∗ f) ∗ (g ∗ h) ∗ (i ∗ j)) ⊢ (iprop(a ∗ b ∗ c ∗ d ∗ e ∗ f ∗ g ∗ h ∗ i ∗ j) : sProp M) := by
    iintro ⟨H1, H2, ⟨H3, H4⟩, ⟨H5, H6⟩, ⟨H7, H8⟩, H9, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  exact Entails.antisymm h1 h2

theorem ownSems_eq (c : Dev nD) : (Pipeline.ownSems0 osem c : sProp 𝕄) = Sems c :=
  (Pipeline.ownSems0_eq_of_list c osem [0, 1, 2, 3, 4, 5, 6, 7, 8, 9] (by decide) (by decide)).trans (ten _ _ _ _ _ _ _ _ _ _)

theorem opens_eq (c : Dev nD) : (bigSep (Fm.dorm 0) fun sm => openTok EC ((c.tc : Thread nD τ), sm) : sProp 𝕄) = Opens c := by
  show (bigSep ringSems.toFinset fun sm => openTok EC ((c.tc : Thread nD τ), sm) : sProp 𝕄) = Opens c
  rw [bigSep_eq_bigSepL _ (by decide)]
  exact ten _ _ _ _ _ _ _ _ _ _

variable (D : Dev nD → Inp F)

/-- What the launch keeps for the region: the invariants, the rights to open, the barrier's place, credits, tokens, release counts. -/
def Kept (c : Dev nD) : sProp 𝕄 :=
  iprop((∃ K, Invs D K) ∗ (∃ ι, SlotInvs ι) ∗ Opens c
    ∗ ((credOf c .barP 0 ∗ credOf c .barN 0) ∗ (tokOf c .barP 0 ∗ tokOf c .barN 0) ∗ atPos EC (cell c barS) 0 ∅ 0
      ∗ reached EC (cell (prv c) barS) 0 ∗ reached EC (cell (nxt c) barS) 0)
    ∗ (tokOf c .xc 0 ∗ tokOf c .ac 0) ∗ Readers c ∗ Stock c 0 0 0 0)

/-- What enters the body beside the slots and the windows. -/
def Entered (c : Dev nD) : sProp 𝕄 :=
  iprop((∃ K ι, Base D K ι) ∗ Greet c ∗ (tokOf c .xc 0 ∗ tokOf c .ac 0) ∗ Places c ∗ Readers c ∗ Stock c 0 0 0 0)

variable (K : GSem nD τ sig → ℕ)

theorem open_ring (c : Dev nD) (k : Pk) (h : ℕ) (hk : k ≠ .barP) (hk' : k ≠ .barN) {s : SemLoc sig} (hs : k.sem h = s) :
    iprop(Invs D K ∗ openTok EC (cell c s) ∗ semVal (cell c s) 0) ⊢ (|={Set.univ}=> pos c s 0 : sProp 𝕄) := by
  subst hs
  unfold pos
  iintro ⟨HI, Ho, Hv⟩
  ihave HI := (Invs_ring D K c k h hk hk') $$ HI
  imod (Rounds.cell_open EC (Rd D) (g := cell c (k.sem h)) (κ := K (cell c (k.sem h))) (Set.mem_univ _)) $$ [HI Ho Hv] with ⟨H1, H2⟩
  · isplitl [HI]; · iexact HI
    isplitl [Ho]; · iexact Ho
    iexact Hv
  imodintro
  isplitl [H1]; · iexact H1
  iexact H2

set_option maxHeartbeats 1000000 in
/-- Opening all of them. -/
theorem open_all (c : Dev nD) :
    iprop(Invs D K ∗ Opens c ∗ Sems c) ⊢ (|={Set.univ}=> (Places c ∗ reached EC (cell c xcS) 0 ∗ reached EC (cell c acS) 0) : sProp 𝕄) := by
  unfold Opens Sems
  iintro ⟨#HI, ⟨O1, O2, ⟨O3, O4⟩, ⟨O5, O6⟩, ⟨O7, O8⟩, O9, O10⟩, V1, V2, ⟨V3, V4⟩, ⟨V5, V6⟩, ⟨V7, V8⟩, V9, V10⟩
  imod (open_ring D K c .xc 0 (by decide) (by decide) (s := xcS) rfl) $$ [O1 V1] with O1
  · isplitr; · iexact HI
    isplitl [O1]; · iexact O1
    iexact V1
  imod (open_ring D K c .ac 0 (by decide) (by decide) (s := acS) rfl) $$ [O2 V2] with O2
  · isplitr; · iexact HI
    isplitl [O2]; · iexact O2
    iexact V2
  imod (open_ring D K c .xs 0 (by decide) (by decide) (s := (xsS 0)) rfl) $$ [O3 V3] with O3
  · isplitr; · iexact HI
    isplitl [O3]; · iexact O3
    iexact V3
  imod (open_ring D K c .xs 1 (by decide) (by decide) (s := (xsS 1)) rfl) $$ [O4 V4] with O4
  · isplitr; · iexact HI
    isplitl [O4]; · iexact O4
    iexact V4
  imod (open_ring D K c .xr 1 (by decide) (by decide) (s := (xrS 0)) rfl) $$ [O5 V5] with O5
  · isplitr; · iexact HI
    isplitl [O5]; · iexact O5
    iexact V5
  imod (open_ring D K c .xr 0 (by decide) (by decide) (s := (xrS 1)) rfl) $$ [O6 V6] with O6
  · isplitr; · iexact HI
    isplitl [O6]; · iexact O6
    iexact V6
  imod (open_ring D K c .as 0 (by decide) (by decide) (s := (asS 0)) rfl) $$ [O7 V7] with O7
  · isplitr; · iexact HI
    isplitl [O7]; · iexact O7
    iexact V7
  imod (open_ring D K c .as 1 (by decide) (by decide) (s := (asS 1)) rfl) $$ [O8 V8] with O8
  · isplitr; · iexact HI
    isplitl [O8]; · iexact O8
    iexact V8
  imod (open_ring D K c .ar 1 (by decide) (by decide) (s := (arS 0)) rfl) $$ [O9 V9] with O9
  · isplitr; · iexact HI
    isplitl [O9]; · iexact O9
    iexact V9
  imod (open_ring D K c .ar 0 (by decide) (by decide) (s := (arS 1)) rfl) $$ [O10 V10] with O10
  · isplitr; · iexact HI
    isplitl [O10]; · iexact O10
    iexact V10
  imodintro
  have hr (s : SemLoc sig) : pos c s 0 ⊢ (iprop(pos c s 0 ∗ reached EC (cell c s) 0) : sProp 𝕄) := by
    unfold pos
    iintro ⟨H1, #H2⟩
    isplitl [H1]
    · isplitl [H1]; · iexact H1
      iexact H2
    iexact H2
  have hp (s : SemLoc sig) : pos c s 0 ⊢ (iprop(atPos EC (cell c s) 0 ∅ 0 ∗ reached EC (cell c s) 0) : sProp 𝕄) := by
    unfold pos; exact .rfl
  ihave O1 := (hr xcS) $$ O1
  ihave O2 := (hp acS) $$ O2
  icases O1 with ⟨O1, R1⟩
  icases O2 with ⟨O2, R2⟩
  unfold Places XPos APend
  isplitr [R1 R2]
  · isplitl [O1]; · iexact O1
    isplitl [O3 O4 O5 O6]
    · isplitl [O3]; · iexact O3
      isplitl [O4]; · iexact O4
      isplitl [O6]; · iexact O6
      iexact O5
    isplitl [O7 O10]
    · isplitl [O7]; · iexact O7
      iexact O10
    isplitl [O8 O9]
    · isplitl [O8]; · iexact O8
      iexact O9
    iexact O2
  isplitl [R1]; · iexact R1
  iexact R2

/-- Entering the region. -/
theorem enter (c : Dev nD) : iprop(Kept D c ∗ Pipeline.ownSems0 osem c ∗ levAts (L 100) lv) ⊢ (|={Set.univ}=> Entered D c : sProp 𝕄) := by
  rw [ownSems_eq]
  unfold Kept
  iintro ⟨⟨⟨%K, #HI⟩, ⟨%ι, #HS⟩, HO, ⟨Hc, Ht, Ha, Hr1, Hr2⟩, Ht1, HR, HSt⟩, HV, #Hlev⟩
  imod (open_all D K c) $$ [HO HV] with ⟨HP, Hr3, Hr4⟩
  · isplitr; · iexact HI
    isplitl [HO]; · iexact HO
    iexact HV
  imodintro
  unfold Entered Greet
  isplitr
  · iexists K, ι
    unfold Base
    isplitr; · iexact HI
    isplitr; · iexact Hlev
    iexact HS
  isplitl [Hc Ht Ha Hr1 Hr2 Hr3 Hr4]
  · isplitl [Hc]; · iexact Hc
    isplitl [Ht]; · iexact Ht
    isplitl [Ha]; · iexact Ha
    isplitl [Hr1]; · iexact Hr1
    isplitl [Hr2]; · iexact Hr2
    isplitl [Hr3]; · iexact Hr3
    iexact Hr4
  isplitl [Ht1]; · iexact Ht1
  isplitl [HP]; · iexact HP
  isplitl [HR]; · iexact HR
  iexact HSt

/-! ## The two buffers in slots -/

omit [FloatOps F] in
theorem slots_disjoint (M : Memref sig .tc .vmem S2x256x1024 .bf16) : Disjoint (slotSet M 0) (slotSet M 1) := by
  unfold slotSet
  rw [View.set_slice, View.set_slice, Finset.disjoint_map, Finset.disjoint_left]
  intro i h0 h1
  have e0 := (Rect.mem_set_unit.mp h0 0).2
  have e1 := (Rect.mem_set_unit.mp h1 0).1
  have e0' : (i 0).val < 0 % 2 + 1 := e0
  have e1' : 1 % 2 ≤ (i 0).val := e1
  omega

omit [FloatOps F] in
/-- A two-slot buffer is its two slots. -/
theorem slots_cover (M : Memref sig .tc .vmem S2x256x1024 .bf16) (hu : M.view.set = Finset.univ) : slotSet M 0 ∪ slotSet M 1 = Finset.univ := by
  rw [← hu]
  unfold slotSet
  rw [View.set_slice, View.set_slice, ← Finset.map_union]
  refine congrArg (Finset.map M.view.emb) (Finset.eq_univ_of_forall fun i => Finset.mem_union.mpr ?_)
  have hi : (i 0).val < 2 := (i 0).isLt
  have h1 : (i 1).val < 256 := (i 1).isLt
  have h2 : (i 2).val < 1024 := (i 2).isLt
  rcases Nat.lt_or_ge (i 0).val 1 with h | h
  · refine .inl (Rect.mem_set_unit.mpr fun a => ?_)
    fin_cases a
    · exact ⟨Nat.zero_le _, h⟩
    · exact ⟨Nat.zero_le _, (by omega : (i 1).val < 0 + 256)⟩
    · exact ⟨Nat.zero_le _, (by omega : (i 2).val < 0 + 1024)⟩
  · refine .inr (Rect.mem_set_unit.mpr fun a => ?_)
    fin_cases a
    · exact ⟨h, (by omega : (i 0).val < 1 % 2 + 1)⟩
    · exact ⟨Nat.zero_le _, (by omega : (i 1).val < 0 + 256)⟩
    · exact ⟨Nat.zero_le _, (by omega : (i 2).val < 0 + 1024)⟩

/-- Splitting a buffer into its slots, and putting them back. -/
theorem split_slots (M : Memref sig .tc .vmem S2x256x1024 .bf16) (hu : M.view.set = Finset.univ) (c : Dev nD) :
    iprop(∃ f : Buf (Elt F) (M.view.loc (c : Thread nD τ)), M.view.loc (c : Thread nD τ) ↦{fullShare} f) ⊢ (iprop(slotAny M c 0 ∗ slotAny M c 1) : sProp 𝕄) := by
  iintro ⟨%f, H⟩
  have h1 : (M.view.loc (c : Thread nD τ) ↦{fullShare} f : sProp 𝕄)
      ⊢ iprop((M.view.loc (c : Thread nD τ) ↦[slotSet M 0]{fullShare} f) ∗ M.view.loc (c : Thread nD τ) ↦[slotSet M 1]{fullShare} f) := by
    rw [← slots_cover M hu]
    exact (pointsTo_union (slots_disjoint M)).1
  ihave H := h1 $$ H
  icases H with ⟨H1, H2⟩
  unfold slotAny slot
  isplitl [H1]
  · iexists f; iexact H1
  · iexists f; iexact H2
@[inherit_doc split_slots]
theorem join_slots (M : Memref sig .tc .vmem S2x256x1024 .bf16) (hu : M.view.set = Finset.univ) (c : Dev nD) :
    iprop(slotAny M c 0 ∗ slotAny M c 1) ⊢ (iprop(∃ f : Buf (Elt F) (M.view.loc (c : Thread nD τ)), M.view.loc (c : Thread nD τ) ↦{fullShare} f) : sProp 𝕄) := by
  unfold slotAny slot
  iintro ⟨⟨%f, H1⟩, %g, H2⟩
  iexists ((slotSet M 1).piecewise g f)
  have h1 : iprop((M.view.loc (c : Thread nD τ) ↦[slotSet M 0]{fullShare} f) ∗ M.view.loc (c : Thread nD τ) ↦[slotSet M 1]{fullShare} g)
      ⊢ (M.view.loc (c : Thread nD τ) ↦{fullShare} ((slotSet M 1).piecewise g f) : sProp 𝕄) := by
    refine (pointsTo_join (slots_disjoint M)).trans ?_
    rw [slots_cover M hu]
  iapply h1
  isplitl [H1]; · iexact H1
  iexact H2

theorem scratch_split (c : Dev nD) : (Pipeline.scopedRest spec0 c : sProp 𝕄) ⊢ Slots4 c := by
  rw [scopedRest0_eq]
  unfold Slots4
  iintro ⟨H1, H2⟩
  isplitl [H1]
  · iapply (split_slots xM (View.set_whole _) c); iexact H1
  · iapply (split_slots aM (View.set_whole _) c); iexact H2
theorem scratch_join (c : Dev nD) : Slots4 c ⊢ (Pipeline.scopedRest spec0 c : sProp 𝕄) := by
  rw [scopedRest0_eq]
  unfold Slots4
  iintro ⟨H1, H2⟩
  isplitl [H1]
  · iapply (join_slots xM (View.set_whole _) c); iexact H1
  · iapply (join_slots aM (View.set_whole _) c); iexact H2

/-! ## The proof data -/

variable (m : (ℓ : Loc nD τ sig) → Buf (Elt F) ℓ)

/-- The inputs of each device, as its host operations leave them. -/
def inp (c : Dev nD) : Inp F := ⟨V1 m c main_v5, V1 m c main_v7, V1 m c main_v8, V1 m c main_v15, V1 m c main_v22⟩

/-- The one launch: the windows' arrays as the host operations leave them, the result's window at the sum, the dues paid at the one point. -/
def dat (c : Dev nD) : Pipeline.Dat τ (Elt F) ℕ ℕ UU ℕ cfg0 c where
  A w := V1 m c (Proc.devRef .tc (Pipeline.arrRef spec0 w))
  after := fun
    | 0 => fun _ => (inp m c).x
    | 1 => fun _ => (inp m c).wq
    | 2 => fun _ => (inp m c).wo
    | 3 => fun _ => (inp m c).k
    | 4 => fun _ => (inp m c).v
    | 5 => fun _ => result (inp m) c
    | ⟨_ + 6, h⟩ => absurd h (Nat.not_lt.2 (Nat.le_add_left _ _))
  Φ t := if t.val = 0 then iprop(Entered (inp m) c ∗ Pipeline.scopedRest spec0 c ∗ ∃ r, prngReg c r)
    else iprop(Zeros c ∗ Pipeline.scopedRest spec0 c ∗ ∃ r, prngReg c r)
  q _ := fullShare
  owed t := if t.val = 0 then owed c codes else 0

/-- The data of all launches. -/
def pdats : (p : Fin 1) → (c : Dev nD) → Pipeline.Dat τ (Elt F) ℕ ℕ UU ℕ (cfgs p) c := fun _ c => dat m c

/-! ### The windows -/

theorem read_0 (t : Fin cfg0.N) (A : (⟨S256x1024, .bf16⟩ : BufTy).Contents (Elt F)) : (win0_0.blk t).view.read (Elt F) A = A :=
  funext fun x => congrArg A (funext fun a => Fin.ext (by show 0 * _ + 1 * (x a).val = (x a).val; omega))
theorem read_1 (t : Fin cfg0.N) (A : (⟨S8x1024x128, .bf16⟩ : BufTy).Contents (Elt F)) : (win0_1.blk t).view.read (Elt F) A = A :=
  funext fun x => congrArg A (funext fun a => Fin.ext (by show 0 * _ + 1 * (x a).val = (x a).val; omega))
theorem read_2 (t : Fin cfg0.N) (A : (⟨S8x128x1024, .bf16⟩ : BufTy).Contents (Elt F)) : (win0_2.blk t).view.read (Elt F) A = A :=
  funext fun x => congrArg A (funext fun a => Fin.ext (by show 0 * _ + 1 * (x a).val = (x a).val; omega))
theorem read_3 (t : Fin cfg0.N) (A : (⟨S8x4096x128, .bf16⟩ : BufTy).Contents (Elt F)) : (win0_3.blk t).view.read (Elt F) A = A :=
  funext fun x => congrArg A (funext fun a => Fin.ext (by show 0 * _ + 1 * (x a).val = (x a).val; omega))
theorem read_4 (t : Fin cfg0.N) (A : (⟨S8x4096x128, .bf16⟩ : BufTy).Contents (Elt F)) : (win0_4.blk t).view.read (Elt F) A = A :=
  funext fun x => congrArg A (funext fun a => Fin.ext (by show 0 * _ + 1 * (x a).val = (x a).val; omega))
theorem read_5 (t : Fin cfg0.N) (A : (⟨S256x1024, .f32⟩ : BufTy).Contents (Elt F)) : (win0_5.blk t).view.read (Elt F) A = A :=
  funext fun x => congrArg A (funext fun a => Fin.ext (by show 0 * _ + 1 * (x a).val = (x a).val; omega))

theorem before_0 (c : Dev nD) (t : Fin cfg0.N) (d) : (dat m c).before 0 t d = (inp m c).x :=
  ((dat m c).before_fetched 0 t (fetch0_0 t) d).trans (read_0 t (V1 m c main_v5))
theorem before_1 (c : Dev nD) (t : Fin cfg0.N) (d) : (dat m c).before 1 t d = (inp m c).wq :=
  ((dat m c).before_fetched 1 t (fetch0_1 t) d).trans (read_1 t (V1 m c main_v7))
theorem before_2 (c : Dev nD) (t : Fin cfg0.N) (d) : (dat m c).before 2 t d = (inp m c).wo :=
  ((dat m c).before_fetched 2 t (fetch0_2 t) d).trans (read_2 t (V1 m c main_v8))
theorem before_3 (c : Dev nD) (t : Fin cfg0.N) (d) : (dat m c).before 3 t d = (inp m c).k :=
  ((dat m c).before_fetched 3 t (fetch0_3 t) d).trans (read_3 t (V1 m c main_v15))
theorem before_4 (c : Dev nD) (t : Fin cfg0.N) (d) : (dat m c).before 4 t d = (inp m c).v :=
  ((dat m c).before_fetched 4 t (fetch0_4 t) d).trans (read_4 t (V1 m c main_v22))

/-! ### The body obligation -/

theorem owed_first (c : Dev nD) : (dat m c).owed t0_0.castSucc = owed c codes := by
  show (if (t0_0.castSucc : Fin (cfg0.N + 1)).val = 0 then owed c codes else 0) = _; exact if_pos rfl
theorem owed_zero (c : Dev nD) : (dat m c).owed 0 = owed c codes := by
  show (if ((0 : Fin (cfg0.N + 1)).val = 0) then owed c codes else 0) = _; exact if_pos rfl
theorem owed_last (c : Dev nD) : (dat m c).owed (Fin.last _) = 0 := by
  show (if (Fin.last cfg0.N).val = 0 then owed c codes else 0) = 0
  rw [Fin.val_last, if_neg (by rw [show cfg0.N = 1 from N_0]; decide)]

/-- The dues, into the pipeline's form and out of it. -/
theorem owes_in (c : Dev nD) (t : Fin (cfg0.N + 1)) (l : List (Pk × ℕ)) (h : (dat m c).owed t = owed c l) : ow c l ⊢ ((dat m c).owesAt 0 t : sProp 𝕄) := by
  unfold ow Pipeline.Dat.owesAt Pipeline.owesWithin Pipeline.Dat.bound
  rw [h]
  iintro ⟨%W, H⟩
  iexists W
  isplitr
  · ipureintro; exact fun _ _ => Or.inl trivial
  iexact H
@[inherit_doc owes_in]
theorem owes_out (c : Dev nD) (t : Fin (cfg0.N + 1)) (l : List (Pk × ℕ)) (h : (dat m c).owed t = owed c l) : ((dat m c).owesAt 0 t : sProp 𝕄) ⊢ ow c l := by
  unfold ow Pipeline.Dat.owesAt Pipeline.owesWithin
  rw [h]
  iintro ⟨%W, -, H⟩
  iexists W
  iexact H

set_option maxHeartbeats 1000000 in
/-- The body obligation: the whole body's run. -/
theorem body_ok (c : Dev nD) : Pipeline.BodyObligation (dat m c) defs₀ 𝒱₀ 0 Set.univ := fun t => by
  obtain rfl := fin_N0 t
  rw [bigSep_W0, bigSep_W0]
  rw [show (dat m c).Φ t0_0.castSucc = iprop(Entered (inp m) c ∗ Pipeline.scopedRest spec0 c ∗ ∃ r, prngReg c r) from rfl,
    show (dat m c).Φ t0_0.succ = iprop(Zeros c ∗ Pipeline.scopedRest spec0 c ∗ ∃ r, prngReg c r) from rfl]
  have hw : iprop((∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d))
      ∗ (∃ d, owns (c : Thread nD τ) ((cfg0.win 4).stage (cfg0.slots t0_0 4)) fullShare ((dat m c).before 4 t0_0 d))
      ∗ (∃ d, owns (c : Thread nD τ) ((cfg0.win 5).stage (cfg0.slots t0_0 5)) fullShare ((dat m c).before 5 t0_0 d)))
      ⊢ (iprop(owns (c : Thread nD τ) (st0_0 t0_0) fullShare (inp m c).x ∗ Wins (inp m) c (st0_1 t0_0) (st0_2 t0_0) (st0_3 t0_0) (st0_4 t0_0)
        ∗ ∃ X, owns (c : Thread nD τ) (st0_5 t0_0) fullShare X) : sProp 𝕄) := by
    simp only [before_0, before_1, before_2, before_3, before_4]
    unfold Wins
    iintro ⟨⟨%_, H0⟩, ⟨%_, H1⟩, ⟨%_, H2⟩, ⟨%_, H3⟩, ⟨%_, H4⟩, ⟨%d5, H5⟩⟩
    isplitl [H0]; · iexact H0
    isplitl [H1 H2 H3 H4]
    · isplitl [H1]; · iexact H1
      isplitl [H2]; · iexact H2
      isplitl [H3]; · iexact H3
      iexact H4
    iexists _; iexact H5
  have hpost : BodyPost (inp m) c (st0_0 t0_0) (st0_1 t0_0) (st0_2 t0_0) (st0_3 t0_0) (st0_4 t0_0) (st0_5 t0_0)
      ⊢ (iprop((Zeros c ∗ Pipeline.scopedRest spec0 c) ∗ (dat m c).owesAt 0 t0_0.succ
        ∗ owns (c : Thread nD τ) (st0_0 t0_0) fullShare (inp m c).x ∗ owns (c : Thread nD τ) (st0_1 t0_0) fullShare (inp m c).wq
        ∗ owns (c : Thread nD τ) (st0_2 t0_0) fullShare (inp m c).wo ∗ owns (c : Thread nD τ) (st0_3 t0_0) fullShare (inp m c).k
        ∗ owns (c : Thread nD τ) (st0_4 t0_0) fullShare (inp m c).v ∗ owns (c : Thread nD τ) (st0_5 t0_0) fullShare (result (inp m) c)) : sProp 𝕄) := by
    unfold BodyPost Wins
    iintro ⟨HO, HZ, HS, H0, ⟨H1, H2, H3, H4⟩, H5⟩
    isplitl [HZ HS]
    · isplitl [HZ]; · iexact HZ
      iapply (scratch_join c); iexact HS
    isplitl [HO]; · iapply (owes_in m c t0_0.succ [] (owed_last m c)); iexact HO
    isplitl [H0]; · iexact H0
    isplitl [H1]; · iexact H1
    isplitl [H2]; · iexact H2
    isplitl [H3]; · iexact H3
    isplitl [H4]; · iexact H4
    iexact H5
  have hin : iprop((Entered (inp m) c ∗ Pipeline.scopedRest spec0 c ∗ ∃ r, prngReg c r) ∗ (dat m c).owesAt 0 t0_0.castSucc
      ∗ (owns (c : Thread nD τ) (st0_0 t0_0) fullShare (inp m c).x ∗ Wins (inp m) c (st0_1 t0_0) (st0_2 t0_0) (st0_3 t0_0) (st0_4 t0_0)
        ∗ ∃ X, owns (c : Thread nD τ) (st0_5 t0_0) fullShare X))
      ⊢ (iprop(∃ K ι, BodyPre (inp m) K ι c (st0_0 t0_0) (st0_1 t0_0) (st0_2 t0_0) (st0_3 t0_0) (st0_4 t0_0) (st0_5 t0_0) ∗ ∃ r, prngReg c r) : sProp 𝕄) := by
    unfold Entered BodyPre
    iintro ⟨⟨⟨⟨%K, %ι, HB⟩, HG, Ht, HPl, HR, HSt⟩, HS, HP⟩, HO, H0, HW, H5⟩
    iexists K; iexists ι
    isplitr [HP]
    · isplitl [HB]; · iexact HB
      isplitl [HO]; · iapply (owes_out m c t0_0.castSucc codes (owed_first m c)); iexact HO
      isplitl [HG]; · iexact HG
      isplitl [Ht]; · iexact Ht
      isplitl [HPl]; · iexact HPl
      isplitl [HR]; · iexact HR
      isplitl [HS]; · iapply (scratch_split c); iexact HS
      isplitl [HSt]; · iexact HSt
      isplitl [H0]; · iexact H0
      isplitl [HW]; · iexact HW
      iexact H5
    iexact HP
  have hrun : ∀ K ι, iprop(BodyPre (inp m) K ι c (st0_0 t0_0) (st0_1 t0_0) (st0_2 t0_0) (st0_3 t0_0) (st0_4 t0_0) (st0_5 t0_0) ∗ ∃ r, prngReg c r)
      ⊢ Run c (bodyAt0 t0_0) fun _ => iprop(BodyPost (inp m) c (st0_0 t0_0) (st0_1 t0_0) (st0_2 t0_0) (st0_3 t0_0) (st0_4 t0_0) (st0_5 t0_0) ∗ ∃ r, prngReg c r) := fun K ι =>
    (BI.sep_mono_l (body_run (inp m) K ι c (arg0 := st0_0 t0_0) (harg0 := hstage0_0 0) (arg1 := st0_1 t0_0) (harg1 := hstage0_1 0) (arg2 := st0_2 t0_0) (harg2 := hstage0_2 0)
      (arg3 := st0_3 t0_0) (harg3 := hstage0_3 0) (arg4 := st0_4 t0_0) (harg4 := hstage0_4 0) (arg5 := st0_5 t0_0) (harg5 := hstage0_5 0) (hx' := Memref.isWhole_whole _) (ha' := Memref.isWhole_whole _))).trans
      (wp_frame_r _ _ _)
  refine (BI.sep_mono_r (BI.sep_mono_r hw)).trans (hin.trans ?_)
  refine (exists_elim fun K => exists_elim fun ι => hrun K ι).trans (wp_mono _ _ _ fun _ => ?_)
  refine (BI.sep_mono_l hpost).trans ?_
  show iprop(((Zeros c ∗ Pipeline.scopedRest spec0 c) ∗ (dat m c).owesAt 0 t0_0.succ ∗ _) ∗ ∃ r, prngReg c r) ⊢ (iprop((Zeros c ∗ Pipeline.scopedRest spec0 c ∗ ∃ r, prngReg c r) ∗ (dat m c).owesAt 0 t0_0.succ
        ∗ owns (c : Thread nD τ) (st0_0 t0_0) fullShare (inp m c).x ∗ owns (c : Thread nD τ) (st0_1 t0_0) fullShare (inp m c).wq
        ∗ owns (c : Thread nD τ) (st0_2 t0_0) fullShare (inp m c).wo ∗ owns (c : Thread nD τ) (st0_3 t0_0) fullShare (inp m c).k
        ∗ owns (c : Thread nD τ) (st0_4 t0_0) fullShare (inp m c).v ∗ owns (c : Thread nD τ) (st0_5 t0_0) fullShare (result (inp m) c)) : sProp 𝕄)
  iintro ⟨⟨⟨HZ, HS⟩, HO, H⟩, HP⟩
  isplitl [HZ HS HP]
  · isplitl [HZ]; · iexact HZ
    isplitl [HS]; · iexact HS
    iexact HP
  isplitl [HO]; · iexact HO
  iexact H

/-! ## The region -/

/-- What the region leaves in the result's array, in the shape of the generated valuations. -/
def outs : Outs (F := F) := fun _ r c => Function.update (V1 m c) main_v23 (result (inp m) c) r
theorem outs_eq (c : Dev nD) : outs m 2 main_v23 c = result (inp m) c := Function.update_self ..

theorem arr_before (c : Dev nD) (w : Fin cfg0.W) : (dat m c).arrAt w 0 = V1 m c (Proc.devRef .tc (Pipeline.arrRef spec0 w)) := rfl

theorem set_5 (i : S256x1024.Idx) : i ∈ ((cfg0.win 5).blk t0_0).view.set :=
  Finset.mem_map.mpr ⟨i, Finset.mem_univ _, funext fun a => Fin.ext (by show 0 * _ + 1 * (i a).val = (i a).val; omega)⟩

theorem arr_result (c : Dev nD) : (dat m c).arrAt 5 cfg0.N = result (inp m) c :=
  (dat m c).arrAt_eq_of_cover 5 (result (inp m) c) (fun t _ => (read_5 t (result (inp m) c)).symm) fun i => ⟨t0_0, flush0_5 t0_0, set_5 i⟩

theorem arr_after (c : Dev nD) (w : Fin cfg0.W) : (dat m c).arrAt w cfg0.N = V2 m (outs m) c (Proc.devRef .tc (Pipeline.arrRef spec0 w)) := by
  fin_cases w
  · exact ((dat m c).arrAt_in 0 rfl cfg0.N).trans (V2_of m (outs m) c main_v5 (by decide)).symm
  · exact ((dat m c).arrAt_in 1 rfl cfg0.N).trans (V2_of m (outs m) c main_v7 (by decide)).symm
  · exact ((dat m c).arrAt_in 2 rfl cfg0.N).trans (V2_of m (outs m) c main_v8 (by decide)).symm
  · exact ((dat m c).arrAt_in 3 rfl cfg0.N).trans (V2_of m (outs m) c main_v15 (by decide)).symm
  · exact ((dat m c).arrAt_in 4 rfl cfg0.N).trans (V2_of m (outs m) c main_v22 (by decide)).symm
  · exact (arr_result m c).trans ((outs_eq m c).symm.trans (Function.update_self (Proc.devRef .tc main_v23 : DevRef τ sig) (outs m 2 main_v23 c) (V1 m c)).symm)

/-- The buffers that are no window's array. -/
def others : Finset (DevRef τ sig) := Pipeline.ucRefs τ sig \ Pipeline.arrRefs spec0

theorem arrs_sub : (Pipeline.arrRefs spec0 : Finset (DevRef τ sig)) ⊆ Pipeline.ucRefs τ sig := by decide +kernel

theorem others_same (c : Dev nD) (b : DevRef τ sig) (hb : b ∈ others) : V2 m (outs m) c b = V1 m c b := by
  refine Function.update_of_ne (fun h => ?_) _ _
  subst h
  exact (Finset.mem_sdiff.mp hb).2 (by decide +kernel)

/-- What a device owes lies above index 0, and has a level. -/
theorem due_above (c : Dev nD) (t : Fin (cfg0.N + 1)) (g : GSem nD τ sig) (i : ℕ) (h : 0 < (dat m c).owed t g i) : i ∈ L 100 g ∧ 0 < lv g i := by
  have e : (dat m c).owed t = if t.val = 0 then owed c codes else 0 := rfl
  rw [e] at h
  split at h
  · obtain ⟨x, hx, rfl, rfl⟩ := tallyL_pos h
    obtain ⟨y, hy, rfl⟩ := List.mem_map.mp hx
    have : ∀ k ∈ codes, 0 < k.1.idx k.2 ∧ k.1.idx k.2 < 100 := by decide
    exact ⟨mem_L' rfl (this y hy).2, (this y hy).1⟩
  · exact absurd h (Nat.lt_irrefl 0)

theorem hin0 (c : Dev nD) : iprop(Pipeline.scopedRest spec0 c ∗ (∃ r, prngReg c r) ∗ StableHlo.held (c.tc : Thread nD τ) ∅ (V1 m c) ∗ Entered (inp m) c)
    ⊢ (dat m c).Φ 0 := by
  rw [show (dat m c).Φ 0 = iprop(Entered (inp m) c ∗ Pipeline.scopedRest spec0 c ∗ ∃ r, prngReg c r) from
    (show (if (0 : Fin (cfg0.N + 1)).val = 0 then iprop(Entered (inp m) c ∗ Pipeline.scopedRest spec0 c ∗ ∃ r, prngReg c r)
      else iprop(Zeros c ∗ Pipeline.scopedRest spec0 c ∗ ∃ r, prngReg c r)) = _ from if_pos rfl)]
  iintro ⟨Hs, Hp, -, HE⟩
  isplitl [HE]; · iexact HE
  isplitl [Hs]; · iexact Hs
  iexact Hp

theorem hout0 (c : Dev nD) : (dat m c).Φ (Fin.last cfg0.N)
    ⊢ iprop(Pipeline.scopedRest spec0 c ∗ (∃ r, prngReg c r) ∗ StableHlo.held (c.tc : Thread nD τ) ∅ (V2 m (outs m) c) ∗ Pipeline.ownSems0 osem c ∗ semVal (cell c barS) 0) := by
  rw [show (dat m c).Φ (Fin.last _) = iprop(Zeros c ∗ Pipeline.scopedRest spec0 c ∗ ∃ r, prngReg c r) from
    (show (if (Fin.last cfg0.N).val = 0 then iprop(Entered (inp m) c ∗ Pipeline.scopedRest spec0 c ∗ ∃ r, prngReg c r)
      else iprop(Zeros c ∗ Pipeline.scopedRest spec0 c ∗ ∃ r, prngReg c r)) = _ from if_neg (by rw [Fin.val_last, show cfg0.N = 1 from N_0]; decide)),
    ownSems_eq]
  unfold Zeros StableHlo.held
  rw [bigSep_empty, Sems]
  iintro ⟨⟨HB, HZ⟩, Hs, Hp⟩
  isplitl [Hs]; · iexact Hs
  isplitl [Hp]; · iexact Hp
  isplitr; · iempintro
  isplitl [HZ]; · iexact HZ
  iexact HB

set_option backward.isDefEq.respectTransparency.types false in
/-- The region's record. -/
def reg : Pipeline.RegionSeg (pcfgs (F := F)) adm (pdats m) 0 defs₀ 𝒱₀ (L 100) lv 0 :=
  Pipeline.RegionSeg.ofTalk (pcfgs (F := F)) adm (pdats m) 0 defs₀ 𝒱₀ (L 100) lv 0 osem (by decide : Pipeline.OwnSemFacts spec0 osem)
    ∅ others (Finset.empty_subset _) launch0.toP rfl (fun c => (body_ok m c).loose)
    (fun _ => 0) (fun c => owed c codes) (fun c => (owed_zero m c).trans (zero_add _).symm) (owed_last m) (fun _ => rfl) (fun c => (dat m c).share_full fun _ => rfl)
    (V1 m) (V2 m (outs m)) (fun c b hb => others_same m c b (Finset.mem_sdiff.mp hb).1)
    (Kept (inp m)) (fun c => semVal (cell c barS) 0) (Entered (inp m)) (fun c => semVal (cell c barS) 0)
    (fun c => enter (inp m) c) (hin0 m) (hout0 m)
    (fun c => by iintro H; imodintro; iexact H)
    (fun _ => 0)
    ⟨fun c _ _ => mem_L c _ (by decide), fun _ _ _ => le_refl _, fun c t g i h => due_above m c t g i h⟩
    (fun _ => iprop(emp))
    (arr_before m) (arr_after m)

/-- The state beside the held buffers before the region; after it. -/
def rest : Fin 2 → Dev nD → sProp 𝕄
  | 0, c => iprop((∃ r, prngReg c r) ∗ Kept (inp m) c ∗ ∃ W, owes (c : Thread nD τ) (owed c codes) W)
  | 1, c => iprop(semVal (cell c barS) 0 ∗ ∃ W, owes (c : Thread nD τ) (0 : CellTallies nD τ sig ℕ) W)

theorem reg_pre (c : Dev nD) : iprop(StableHlo.held (c : Thread nD τ) (Pipeline.ucRefs τ sig) (V1 m c) ∗ rest m 0 c) ⊢ (reg m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ Kept (inp m) c ∗ ∃ Wd, owes (c : Thread nD τ) (0 + owed c codes) Wd)
  rw [zero_add, StableHlo.held_sub_split (c.tc : Thread nD τ) arrs_sub (V1 m c)]
  unfold rest others
  iintro ⟨⟨Ha, Ho⟩, Hp, HK, HO⟩
  isplitl [Ha]; · iexact Ha
  isplitl [Hp]; · iexact Hp
  isplitl [Ho]
  · isplitl [Ho]; · iexact Ho
    iempintro
  isplitl [HK]; · iexact HK
  iexact HO

theorem reg_post (c : Dev nD) : (reg m).post c ⊢ iprop(StableHlo.held (c : Thread nD τ) (Pipeline.ucRefs τ sig) (V2 m (outs m) c) ∗ rest m 1 c) := by
  show iprop(StableHlo.held (c.tc : Thread nD τ) (Pipeline.arrRefs spec0) (V2 m (outs m) c) ∗ (∃ r, prngReg c r)
    ∗ (StableHlo.held (c.tc : Thread nD τ) others (V2 m (outs m) c) ∗ emp) ∗ semVal (cell c barS) 0 ∗ ∃ Wd, owes (c : Thread nD τ) (0 : CellTallies nD τ sig ℕ) Wd) ⊢ _
  rw [StableHlo.held_sub_split (c.tc : Thread nD τ) arrs_sub (V2 m (outs m) c)]
  unfold rest others
  iintro ⟨Ha, -, ⟨Ho, -⟩, HB, HO⟩
  isplitl [Ha Ho]
  · isplitl [Ha]; · iexact Ha
    iexact Ho
  isplitl [HB]; · iexact HB
  iexact HO

end Cert.KernelIdeal.Pass

end
-- ==== Proof.Launch.lean ====
/-
  The program's launch: every cell's invariant and every slot's, the barrier's places, tokens and credits dealt to the devices; then the
  run of the whole program, with the memory it ends in.
-/
module

public import proofs.«01_k».proof.Proof.Region

@[expose] public section

noncomputable section

namespace Cert.KernelIdeal.Pass

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.TalkSites
open Idealize.ShloMosaic.SiteBlocks (L lv hL Funds)
open Cert.KernelIdeal Cert.KernelIdeal.Gen

variable {F : FTy → Type} [FloatOps F]
local notation "𝕄" => MT nD τ sig ℕ (Elt F) ℕ UU ℕ

/-! ## Dealing -/

/-- A product of index sets, one after the other. -/
theorem bigSep_both {M : Type} [URA M] {α β : Type} [DecidableEq α] [DecidableEq β] (s : Finset α) (t : Finset β) (Φ : α × β → sProp M) :
    bigSep (s ×ˢ t) Φ = bigSep s fun a => bigSep t fun b => Φ (a, b) := by
  rw [Finset.product_eq_biUnion, bigSep_biUnion_eq _ _ _ fun a _ a' _ hne => Finset.disjoint_left.mpr fun x hx hx' => by
    obtain ⟨b, -, rfl⟩ := Finset.mem_image.mp hx
    obtain ⟨b', -, e⟩ := Finset.mem_image.mp hx'
    exact hne (congrArg Prod.fst e).symm]
  refine bigSep_congr fun a _ => ?_
  have e : (t.image fun b => (a, b)) = t.map ⟨fun b => (a, b), fun _ _ h => (Prod.mk.inj h).2⟩ := by rw [Finset.map_eq_image]; rfl
  rw [e, bigSep_map]
  rfl

/-- The two neighbors of a device on the ring. -/
def near (c : Dev nD) : Finset (Dev nD) := {prv c, nxt c}

/-- The release counts of all slots, device by device. -/
theorem readers_deal : (bigSep Finset.univ fun k : Dev nD × Fin 2 => readerAt ES k 0 : sProp 𝕄) = bigSep Finset.univ fun c : Dev nD => Readers c := by
  rw [bigSep_univ_prod]
  exact bigSep_congr fun c _ => bigSep_fin_two (fun b : Fin 2 => (readerAt ES (c, b) 0 : sProp 𝕄))

/-- A slot and a write of it, hop by hop. -/
def writes : List (Fin 2 × ℕ) := (List.range' 0 8).map fun h => (par (h + 1), h / 2)
theorem writes_nodup : writes.Nodup := by decide
theorem writes_all : writes.toFinset = (Finset.univ : Finset (Fin 2)) ×ˢ Finset.range 4 := by decide

/-- The tokens of all writes, to the devices that write. -/
theorem writes_deal : (bigSep ((Finset.univ : Finset (Dev nD × Fin 2)) ×ˢ Finset.range 4) fun x => writeTok ES x.1 (x.2 + 1) : sProp 𝕄)
    = bigSep Finset.univ fun c : Dev nD => left 0 8 (wTok c) := by
  have h1 (n : Dev nD) : (bigSep Finset.univ fun b : Fin 2 => bigSep (Finset.range 4) fun t => writeTok ES (n, b) (t + 1) : sProp 𝕄)
      = bigSepL writes fun x => writeTok ES (n, x.1) (x.2 + 1) := by
    rw [← bigSep_eq_bigSepL _ writes_nodup, writes_all, bigSep_both]
  rw [bigSep_both, bigSep_univ_prod]
  simp only [h1]
  rw [bigSep_univ_equiv ring (fun n : Dev nD => (bigSepL writes fun x => writeTok ES (n, x.1) (x.2 + 1) : sProp 𝕄))]
  refine bigSep_congr fun c _ => ?_
  unfold writes left
  rw [bigSepL_map]
  rfl

/-! ## The launch's state -/

/-- The launch element: the staging cells', the ring's cells and tokens, the slots. -/
def u₀ : UU :=
  (initOf (Pipeline.cells (Pipeline.pin (pcfgs (F := F)) adm) cellOf_inj) (Pipeline.launchToks (Pipeline.pin (pcfgs (F := F)) adm) cellOf_inj),
    (launchOf Fm.S Fm.Sd Fm.T, initSlots (Finset.univ : Finset (Dev nD × Fin 2)) 4))

/-- The ring's part of it. -/
def Whole0 : sProp 𝕄 := iprop(BI.own (EC (launchOf Fm.S Fm.Sd Fm.T)) ∗ BI.own (ES (initSlots (Finset.univ : Finset (Dev nD × Fin 2)) 4)))

/-- It waits at device 0 to be dealt. -/
def parked (c : Dev nD) : sProp 𝕄 := if c = 0 then Whole0 else iprop(emp)
theorem parked_eq : (bigSep Finset.univ parked : sProp 𝕄) = Whole0 := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

theorem launch_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ parked) := by
  rw [parked_eq]
  unfold u₀ Whole0
  iintro Hu
  ihave H := (ownU_pair _ _) $$ Hu
  icases H with ⟨HP, HX⟩
  ihave H := (own_pair_emb _ _ _) $$ HX
  imodintro
  isplitl [HP]; · iexact HP
  iexact H

theorem bar_only (c : Dev nD) : (unscopedSems0 c : sProp 𝕄) = semVal (cell c barS) 0 := by
  unfold unscopedSems0
  rw [show (Finset.univ.filter fun sm : SemLoc sig => ¬ sm.isScoped .tc) = {barS} from by decide, BI.bigSep_singleton]
theorem unscoped_eq : ∀ sm : SemLoc sig, sm.isScoped .tc = false → sm = barS := by decide

variable (m : (ℓ : Loc nD τ sig) → Buf (Elt F) ℓ) (ρ : Dev nD → PrngReg)

/-- What a device has that is not the ring's ghost state. -/
def bundle (c : Dev nD) : sProp 𝕄 :=
  iprop(StableHlo.held (c : Thread nD τ) (Pipeline.ucRefs τ sig) (V0 m c) ∗ owes (c : Thread nD τ) (owed c codes) ∅ ∗ Pipeline.launchCred (fun d => owed d codes) c
    ∗ ∃ r, prngReg c r)

/-- What of the ring's state is one device's. -/
def share (c : Dev nD) : sProp 𝕄 := iprop(Fm.launched EC (Rd (inp m)) near c ∗ Readers c ∗ left 0 8 (wTok c))

theorem kept_intro (c : Dev nD) : iprop((∃ ι, SlotInvs ι) ∗ (share m c ∗ bundle m c))
    ⊢ (iprop(StableHlo.held (c : Thread nD τ) (Pipeline.ucRefs τ sig) (V0 m c) ∗ rest m 0 c) : sProp 𝕄) := by
  rw [show rest m 0 c = iprop((∃ r, prngReg c r) ∗ Kept (inp m) c ∗ ∃ W, owes (c : Thread nD τ) (owed c codes) W) from rfl]
  unfold share bundle Kept Fam.launched Fam.barPos near
  rw [show (Finset.univ : Finset (Fin 1)) = {0} from rfl, bigSep_singleton, launchCred_eq]
  have hn : (bigSep ({prv c, nxt c} : Finset (Dev nD)) fun n => reached EC ((n.tc : Thread nD τ), Fm.bar) 0)
      ⊢ (iprop(reached EC (cell (prv c) barS) 0 ∗ reached EC (cell (nxt c) barS) 0) : sProp 𝕄) := by
    rw [bigSep_insert (by have : prv c ≠ nxt c := by decide +revert
                          simpa using this), bigSep_singleton]
    exact .rfl
  unfold Fam.rides Stock
  rw [toks_eq]
  iintro ⟨HS, ⟨⟨⟨-, Hat, Hr⟩, HI, Hop, Ht0, Ht1, Hx, Ha, Hac, Hxc⟩, HR, Hw⟩, Hh, HO, ⟨Hc0, Hcx, Hca⟩, Hp⟩
  ihave Hr := hn $$ Hr
  isplitl [Hh]; · iexact Hh
  isplitl [Hp]; · iexact Hp
  isplitr [HO]
  · isplitl [HI]
    · unfold Invs; iexact HI
    isplitl [HS]; · iexact HS
    isplitl [Hop]; · iapply (Entails.of_eq (opens_eq c)); iexact Hop
    isplitl [Hc0 Ht0 Hat Hr]
    · isplitl [Hc0]; · iexact Hc0
      isplitl [Ht0]; · iexact Ht0
      isplitl [Hat]; · iexact Hat
      iexact Hr
    isplitl [Ht1]; · iexact Ht1
    isplitl [HR]; · iexact HR
    isplitl [Hcx Hx]
    · isplitl [Hcx]; · iexact Hcx
      iexact Hx
    isplitl [Hxc]; · iexact Hxc
    isplitr [Hac]
    · isplitl [Hca]; · iexact Hca
      isplitl [Ha]; · iexact Ha
      iexact Hw
    iexact Hac
  · iexists ∅; iexact HO

/-- The global step at the launch. -/
theorem init :
    iprop((bigSep Finset.univ fun c : Dev nD => iprop(unscopedBufs c (fun b => m ((c : Thread nD τ).loc b)) ∗ unscopedSems0 c
          ∗ owes (c : Thread nD τ) (owed c codes) ∅ ∗ Pipeline.launchCred (fun d => owed d codes) c ∗ prngReg c (ρ c) ∗ parked c)) ∗ levAts (L 100) lv)
      ⊢ (|={Set.univ}=> bigSep Finset.univ (fun c : Dev nD => iprop(StableHlo.held (c : Thread nD τ) (Pipeline.ucRefs τ sig) (V0 m c) ∗ rest m 0 c)) : sProp 𝕄) := by
  have hcore (c : Dev nD) : iprop(unscopedBufs c (fun b => m ((c : Thread nD τ).loc b)) ∗ unscopedSems0 c
        ∗ owes (c : Thread nD τ) (owed c codes) ∅ ∗ Pipeline.launchCred (fun d => owed d codes) c ∗ prngReg c (ρ c) ∗ parked c)
      ⊢ (iprop(bundle m c ∗ ((semVal (cell c barS) 0 ∗ Pipeline.launchCred (fun _ => 0) c) ∗ parked c)) : sProp 𝕄) := by
    rw [show unscopedBufs c (fun b => m ((c : Thread nD τ).loc b)) = StableHlo.held (c : Thread nD τ) (Pipeline.ucRefs τ sig) (V0 m c)
        from Pipeline.unscopedBufs_held c (V0 m c), bar_only, Pipeline.launchCred_zero]
    unfold bundle
    iintro ⟨Hh, Hb, HO, Hc, Hp, HG⟩
    isplitl [Hh HO Hc Hp]
    · isplitl [Hh]; · iexact Hh
      isplitl [HO]; · iexact HO
      isplitl [Hc]; · iexact Hc
      iexists (ρ c); iexact Hp
    isplitr [HG]
    · isplitl [Hb]; · iexact Hb
      iempintro
    iexact HG
  have hall : (bigSep Finset.univ fun c : Dev nD => iprop(unscopedBufs c (fun b => m ((c : Thread nD τ).loc b)) ∗ unscopedSems0 c
        ∗ owes (c : Thread nD τ) (owed c codes) ∅ ∗ Pipeline.launchCred (fun d => owed d codes) c ∗ prngReg c (ρ c) ∗ parked c))
      ⊢ (iprop(bigSep Finset.univ (bundle m) ∗ bigSep Finset.univ fun c : Dev nD => iprop((semVal (cell c barS) 0 ∗ Pipeline.launchCred (fun _ => 0) c) ∗ parked c)) : sProp 𝕄) :=
    (bigSep_mono (s := Finset.univ) fun c _ => hcore c).trans (Entails.of_eq (bigSep_sep' _ _ _))
  have hf := Fam.funds (F := Fm) EC (Rd (inp m)) (fun _ _ h => h) near (Es := Set.univ)
  unfold Funds at hf
  iintro ⟨H, -⟩
  ihave H := hall $$ H
  icases H with ⟨HB, H⟩
  ihave H := (Entails.of_eq (bigSep_sep' _ _ _)) $$ H
  icases H with ⟨Hv, HG⟩
  ihave HG := (Entails.of_eq (parked_eq (F := F))) $$ HG
  unfold Whole0
  icases HG with ⟨HC, HSl⟩
  imod hf $$ [Hv HC] with HL
  · isplitl [Hv]; · iexact Hv
    iexact HC
  imod (slots_init ES (Finset.univ : Finset (Dev nD × Fin 2)) 4 (fun k => slotAny aM k.1 k.2.val)) $$ HSl with ⟨%ι, -, #HI, HR, HW⟩
  ihave HR := (Entails.of_eq (readers_deal (F := F))) $$ HR
  ihave HW := (Entails.of_eq (writes_deal (F := F))) $$ HW
  imodintro
  iapply (bigSep_with_persistent (R := iprop(∃ ι, SlotInvs ι)) (Φ := fun c => iprop(share m c ∗ bundle m c)) fun c _ => kept_intro m c)
  isplitr
  · iexists ι; unfold SlotInvs; iexact HI
  iapply (Entails.of_eq (bigSep_sep' _ _ _).symm)
  isplitr [HB]
  · unfold share
    iapply (Entails.of_eq (bigSep_sep' _ _ _).symm)
    isplitl [HL]; · iexact HL
    iapply (Entails.of_eq (bigSep_sep' _ _ _).symm)
    isplitl [HR]; · iexact HR
    iexact HW
  iexact HB

/-- A buffer of the whole program, not of the region alone, is among those the host holds. -/
theorem uc_mem (r : Ref sig .tc) (h : ¬(Proc.devRef .tc r : DevRef τ sig).isScoped) : (Proc.devRef .tc r : DevRef τ sig) ∈ Pipeline.ucRefs τ sig :=
  Finset.mem_filter.mpr ⟨StableHlo.devRef_mem_tcRefs r, h⟩

set_option backward.isDefEq.respectTransparency.types false in
/-- The run of the program: from any memory with all counters at zero it ends, the result's array as the host's last operation leaves it,
    the arguments as they were, all counters at zero. -/
theorem run_main : θ_run defs (onTc (τ := τ) (main (F := F))) ⟨m, fun _ => 0, ρ⟩
    (fun r => (∀ c : Dev nD, r.2.mem ((c : Thread nD τ).loc main_v24) = V3 m (outs m) c main_v24
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_dev_sems (pcfgs (F := F)) adm (pdats m) 0 cellOf_inj EP defs₀ 𝒱₀ (L 100) lv m ρ main
    (segs m (outs m) 𝒱₀ (L 100) lv (rest m) 0 (pdats m) (reg m))
    (fun c Q => by
      rewrite [main_chain c, Pipeline.Seg.run_eq_chain,
        show (segs m (outs m) 𝒱₀ (L 100) lv (rest m) 0 (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun d => owed d codes) (hL 100) parked u₀ launch_split
    (T₀ := fun c => iprop(StableHlo.held (c : Thread nD τ) (Pipeline.ucRefs τ sig) (V0 m c) ∗ rest m 0 c))
    (Tₙ := fun c => iprop(StableHlo.held (c : Thread nD τ) (Pipeline.ucRefs τ sig) (V3 m (outs m) c) ∗ semVal (cell c barS) 0))
    (hch := fun c => ⟨.rfl, reg_pre m c, reg_post m c, by
      show iprop(StableHlo.held (c : Thread nD τ) (Pipeline.ucRefs τ sig) (V3 m (outs m) c)
          ∗ (semVal (cell c barS) 0 ∗ ∃ W, owes (c : Thread nD τ) (0 : CellTallies nD τ sig ℕ) W))
        ⊢ iprop((StableHlo.held (c : Thread nD τ) (Pipeline.ucRefs τ sig) (V3 m (outs m) c) ∗ semVal (cell c barS) 0)
          ∗ ∃ W, owes (c : Thread nD τ) (0 : CellTallies nD τ sig ℕ) W)
      iintro ⟨Hh, Hb, HO⟩
      isplitr [HO]
      · isplitl [Hh]; · iexact Hh
        iexact Hb
      · iexact HO⟩)
    (hinit := init m ρ)
    (QY := fun c s => (∀ b ∈ Pipeline.ucRefs τ sig, s.mem ((c : Dev nD), b) = V3 m (outs m) c b) ∧ s.sem (cell c barS) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh]; · iexact Hh
        iexact HSI
      icases Hr with ⟨%h, HSI⟩
      imodintro
      isplitr
      · ipureintro
        exact ⟨h, by simpa using hb⟩
      iexact HSI)
    (hQ := fun s h hs => ⟨fun c => ⟨(h c).1 _ (uc_mem main_v24 (by decide)),
        ((h c).1 _ (uc_mem main_arg0 (by decide))).trans (V3_main_arg0 m (outs m) c),
        ((h c).1 _ (uc_mem main_arg1 (by decide))).trans (V3_main_arg1 m (outs m) c),
        ((h c).1 _ (uc_mem main_arg2 (by decide))).trans (V3_main_arg2 m (outs m) c),
        ((h c).1 _ (uc_mem main_arg3 (by decide))).trans (V3_main_arg3 m (outs m) c),
        ((h c).1 _ (uc_mem main_arg4 (by decide))).trans (V3_main_arg4 m (outs m) c)⟩,
      sem_eq_zero hs fun c sm hsm => by
        obtain rfl := unscoped_eq sm hsm
        exact (h c).2⟩)

end Cert.KernelIdeal.Pass

end
-- ==== Proof.RefStages.lean ====
/-
  The reference's value in stages: the queries, one pass over a block of 1024 keys and values (scores, running maximum,
  running denominator, running numerator), and the last projection. Four passes make the whole value.
-/
module

public import proofs.«01_k».proof.Proof.Gen.ReferenceIdeal.Run

@[expose] public section

noncomputable section

namespace Cert.ReferenceIdeal.Stage

open Idealize.ShloMosaic Idealize.ShloMosaic.TcCoe
open Cert.ReferenceIdeal Cert.ReferenceIdeal.Facts₀ Cert.ReferenceIdeal.Facts

variable {F : FTy → Type} [FloatOps F] [Cert.ReferenceIdeal.Facts]

/-- The queries of every head. -/
def queries (x : FVec F S1x2048x1024 .bf16) (wq : FVec F S1024x8192 .bf16) : FVec F S1x2048x64x128 .f32 :=
  shapeCast _ (Host.dotGeneral dot_S1x2048x1024_S1024x8192_S1x2048x8192_2_0_01_1_n_n none (extf .f32 x bitsLt_bf16_f32) (extf .f32 wq bitsLt_bf16_f32)) shapeCasts_S1x2048x8192_S1x2048x64x128

/-- The scaled scores of the queries against a block of keys. -/
def scores (q : FVec F S1x2048x64x128 .f32) (k : FVec F S1x1024x64x128 .f32) : FVec F S1x64x2048x1024 .f32 :=
  mulf (Host.dotGeneral dot_S1x2048x64x128_S1x1024x64x128_S1x64x2048x1024_3_3_1_1_02_02 none q k) (broadcastInDim S1x64x2048x1024 ![] bcast_S_S1x64x2048x1024 (constant S_ .f32 0x3DB504F3#32))

/-- The running maximum after a block of scores. -/
def maxima (mp : FVec F S1x64x2048x1 .f32) (s : FVec F S1x64x2048x1024 .f32) : FVec F S1x64x2048x1 .f32 :=
  maximumf mp (broadcastInDim S1x64x2048x1 ![0, 1, 2] bcast_S1x64x2048_S1x64x2048x1_0_1_2 (Host.reduce FloatOps.maximumf s (constant S_ .f32 0xFF800000#32) reducesTo_S1x64x2048x1024_S1x64x2048_d3 h_S_))

/-- The weights of a block of scores against a maximum. -/
def weights (mx : FVec F S1x64x2048x1 .f32) (s : FVec F S1x64x2048x1024 .f32) : FVec F S1x64x2048x1024 .f32 :=
  Host.exp (subf s (broadcastInDim S1x64x2048x1024 ![0, 1, 2, 3] bcast_S1x64x2048x1_S1x64x2048x1024_0_1_2_3 mx))

/-- The factor that moves what is held from one maximum to the next. -/
def factor (mp mx : FVec F S1x64x2048x1 .f32) : FVec F S1x64x2048x1 .f32 := Host.exp (subf mp mx)

/-- The running denominator. -/
def denoms (l a : FVec F S1x64x2048x1 .f32) (p : FVec F S1x64x2048x1024 .f32) : FVec F S1x64x2048x1 .f32 :=
  addf (mulf l a) (broadcastInDim S1x64x2048x1 ![0, 1, 2] bcast_S1x64x2048_S1x64x2048x1_0_1_2 (Host.reduceAdd p (constant S_ .f32 0x00000000#32) reducesTo_S1x64x2048x1024_S1x64x2048_d3 h_S_))

/-- The running numerator. -/
def numers (o : FVec F S1x2048x64x128 .f32) (a : FVec F S1x64x2048x1 .f32) (v : FVec F S1x1024x64x128 .f32) (p : FVec F S1x64x2048x1024 .f32) : FVec F S1x2048x64x128 .f32 :=
  addf (mulf o (broadcastInDim S1x2048x64x128 ![0, 1, 2, 3] bcast_S1x2048x64x1_S1x2048x64x128_0_1_2_3 (transpose S1x2048x64x1 [0, 2, 1, 3] a transposes_S1x64x2048x1_S1x2048x64x1_0_2_1_3)))
    (transpose S1x2048x64x128 [0, 3, 1, 2] (Host.dotGeneral dot_S1x1024x64x128_S1x64x2048x1024_S1x64x128x2048_1_3_3_2_02_01 none v p) transposes_S1x64x128x2048_S1x2048x64x128_0_3_1_2)

/-- What is held between passes. -/
structure Held (F : FTy → Type) where
  mx : FVec F S1x64x2048x1 .f32
  l : FVec F S1x64x2048x1 .f32
  o : FVec F S1x2048x64x128 .f32

/-- One pass over a block of keys and values. -/
def pass (q : FVec F S1x2048x64x128 .f32) (k v : FVec F S1x1024x64x128 .f32) (h : Held F) : Held F where
  mx := maxima h.mx (scores q k)
  l := denoms h.l (factor h.mx (maxima h.mx (scores q k))) (weights (maxima h.mx (scores q k)) (scores q k))
  o := numers h.o (factor h.mx (maxima h.mx (scores q k))) v (weights (maxima h.mx (scores q k)) (scores q k))

/-- What is held before the first pass. -/
def start : Held F where
  mx := broadcastInDim S1x64x2048x1 ![] bcast_S_S1x64x2048x1 (constant S_ .f32 0xFF800000#32)
  l := broadcastInDim S1x64x2048x1 ![] bcast_S_S1x64x2048x1 (constant S_ .f32 0x00000000#32)
  o := broadcastInDim S1x2048x64x128 ![] bcast_S_S1x2048x64x128 (constant S_ .f32 0x00000000#32)

/-- Block 0 of the keys, or of the values. -/
def blk0 (k : FVec F S1x4096x64x128 .bf16) : FVec F S1x1024x64x128 .f32 := extractStridedSlice S1x1024x64x128 ![0, 0, 0, 0] (extf .f32 k bitsLt_bf16_f32) slices_S1x4096x64x128_S1x1024x64x128_0_0_0_0
/-- Block 1. -/
def blk1 (k : FVec F S1x4096x64x128 .bf16) : FVec F S1x1024x64x128 .f32 := extractStridedSlice S1x1024x64x128 ![0, 1024, 0, 0] (extf .f32 k bitsLt_bf16_f32) slices_S1x4096x64x128_S1x1024x64x128_0_1024_0_0
/-- Block 2. -/
def blk2 (k : FVec F S1x4096x64x128 .bf16) : FVec F S1x1024x64x128 .f32 := extractStridedSlice S1x1024x64x128 ![0, 2048, 0, 0] (extf .f32 k bitsLt_bf16_f32) slices_S1x4096x64x128_S1x1024x64x128_0_2048_0_0
/-- Block 3. -/
def blk3 (k : FVec F S1x4096x64x128 .bf16) : FVec F S1x1024x64x128 .f32 := extractStridedSlice S1x1024x64x128 ![0, 3072, 0, 0] (extf .f32 k bitsLt_bf16_f32) slices_S1x4096x64x128_S1x1024x64x128_0_3072_0_0

/-- What is held after the four passes. -/
def final (x : FVec F S1x2048x1024 .bf16) (wq : FVec F S1024x8192 .bf16) (k v : FVec F S1x4096x64x128 .bf16) : Held F :=
  pass (queries x wq) (blk3 k) (blk3 v) <| pass (queries x wq) (blk2 k) (blk2 v) <| pass (queries x wq) (blk1 k) (blk1 v) <| pass (queries x wq) (blk0 k) (blk0 v) start

/-- The last projection. -/
def project (h : Held F) (wo : FVec F S8192x1024 .bf16) : FVec F S1x2048x1024 .f32 :=
  Host.dotGeneral dot_S1x2048x8192_S8192x1024_S1x2048x1024_2_0_01_1_n_n none (shapeCast _ (Host.divf h.o (broadcastInDim S1x2048x64x128 ![0, 1, 2, 3] bcast_S1x2048x64x1_S1x2048x64x128_0_1_2_3 (transpose S1x2048x64x1 [0, 2, 1, 3] h.l transposes_S1x64x2048x1_S1x2048x64x1_0_2_1_3))) shapeCasts_S1x2048x64x128_S1x2048x8192)
    (extf .f32 wo bitsLt_bf16_f32)

/-- The reference's result is the projection of what the four passes leave. -/
theorem value_eq (m : (ℓ : Loc nD τ sig) → Buf (Elt F) ℓ) (c : Dev nD) :
    Cert.ReferenceIdeal.Value.res_main_v106 m c
      = project (final (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) := by
  unfold Cert.ReferenceIdeal.Value.res_main_v106
  rfl

end Cert.ReferenceIdeal.Stage

end
-- ==== Proof.RefRead.lean ====
/-
  The stages of the reference read at an index, over the extended reals: each element as a sum, a maximum, an exponential
  or a quotient of elements of the stage before.
-/
module

public import proofs.«01_k».proof.Proof.RefStages
public import Idealize.ShloMosaic.Lib.Pointwise

@[expose] public section

set_option maxRecDepth 16384

noncomputable section

namespace Cert.ReferenceIdeal.Stage

open Idealize.ShloMosaic Idealize.ShloMosaic.TcCoe
open Cert.ReferenceIdeal

/-- A maximum along the last of four axes, at an index: the fold of `max` along that axis. -/
theorem maxReduce_apply {A B C D : ℕ} {u : Shape} (s : FVec Ideal ⟨4, ![A, B, C, D]⟩ .f32) (z : FVec Ideal u .f32)
    (h : (⟨4, ![A, B, C, D]⟩ : Shape).ReducesTo [3] ⟨3, ![A, B, C]⟩) (hu : 0 < u.numel) (a : Fin A) (b : Fin B) (c : Fin C) :
    Host.reduce FloatOps.maximumf s z h hu (ix3 a b c)
      = (Finset.univ : Finset (Fin D)).fold max (z (Shape.Idx.first hu)) (fun k => s (ix4 a b c k)) := by
  rw [Host.reduce_eq_fold, h.fold_fiber_r4_a3]
  rfl

variable [Cert.ReferenceIdeal.Facts]

/-- A query: the row of `x` against the column of the head's weights. -/
theorem queries_apply (x : FVec Ideal S1x2048x1024 .bf16) (wq : FVec Ideal S1024x8192 .bf16) (i : Fin 2048) (h : Fin 64) (d : Fin 128) :
    queries x wq (ix4 0 i h d) = ∑ e : Fin 1024, x (ix3 0 i e) * wq (ix2 e ⟨h.val * 128 + d.val, by omega⟩) := by
  pointwise [queries]

/-- A score: the query against the key, scaled. -/
theorem scores_apply (q : FVec Ideal S1x2048x64x128 .f32) (k : FVec Ideal S1x1024x64x128 .f32) (i : Fin 2048) (h : Fin 64) (j : Fin 1024) :
    scores q k (ix4 0 h i j) = (∑ d : Fin 128, q (ix4 0 i h d) * k (ix4 0 j h d)) * Ideal.ofBits .f32 0x3DB504F3#32 := by
  pointwise [scores]

/-- The greater of two arrays, the second spread along the last axis, at an index. -/
theorem maxSpread_apply (mp : FVec Ideal S1x64x2048x1 .f32) (R : FVec Ideal S1x64x2048 .f32) (i : Fin 2048) (h : Fin 64) :
    (maximumf mp (broadcastInDim S1x64x2048x1 ![0, 1, 2] Facts₀.bcast_S1x64x2048_S1x64x2048x1_0_1_2 R)) (ix4 0 h i 0) = max (mp (ix4 0 h i 0)) (R (ix3 0 h i)) := by
  pointwise

/-- The running maximum: the greater of what was held and the block's greatest score. -/
theorem maxima_apply (mp : FVec Ideal S1x64x2048x1 .f32) (s : FVec Ideal S1x64x2048x1024 .f32) (i : Fin 2048) (h : Fin 64) :
    maxima mp s (ix4 0 h i 0)
      = max (mp (ix4 0 h i 0)) ((Finset.univ : Finset (Fin 1024)).fold max (Ideal.ofBits .f32 0xFF800000#32) (fun j => s (ix4 0 h i j))) := by
  have e := maxReduce_apply s (constant S_ .f32 0xFF800000#32) Facts₀.reducesTo_S1x64x2048x1024_S1x64x2048_d3 Facts₀.h_S_ 0 h i
  unfold maxima
  rw [maxSpread_apply, e]
  rfl

/-- A weight: the exponential of the score over the maximum. -/
theorem weights_apply (mx : FVec Ideal S1x64x2048x1 .f32) (s : FVec Ideal S1x64x2048x1024 .f32) (i : Fin 2048) (h : Fin 64) (j : Fin 1024) :
    weights mx s (ix4 0 h i j) = Ideal.exp (s (ix4 0 h i j) - mx (ix4 0 h i 0)) := by
  pointwise [weights]

/-- The factor between two maxima. -/
theorem factor_apply (mp mx : FVec Ideal S1x64x2048x1 .f32) (i : Fin 2048) (h : Fin 64) :
    factor mp mx (ix4 0 h i 0) = Ideal.exp (mp (ix4 0 h i 0) - mx (ix4 0 h i 0)) := by
  pointwise [factor]

/-- The running denominator: what was held, moved to the new maximum, and the block's weights. -/
theorem denoms_apply (l a : FVec Ideal S1x64x2048x1 .f32) (p : FVec Ideal S1x64x2048x1024 .f32) (i : Fin 2048) (h : Fin 64) :
    denoms l a p (ix4 0 h i 0) = l (ix4 0 h i 0) * a (ix4 0 h i 0) + ∑ j : Fin 1024, p (ix4 0 h i j) := by
  pointwise [denoms]

/-- The running numerator: what was held, moved to the new maximum, and the block's weighted values. -/
theorem numers_apply (o : FVec Ideal S1x2048x64x128 .f32) (a : FVec Ideal S1x64x2048x1 .f32) (v : FVec Ideal S1x1024x64x128 .f32)
    (p : FVec Ideal S1x64x2048x1024 .f32) (i : Fin 2048) (h : Fin 64) (d : Fin 128) :
    numers o a v p (ix4 0 i h d) = o (ix4 0 i h d) * a (ix4 0 h i 0) + ∑ j : Fin 1024, v (ix4 0 j h d) * p (ix4 0 h i j) := by
  pointwise [numers]

/-- Block 0 at an index. -/
theorem blk0_apply (k : FVec Ideal S1x4096x64x128 .bf16) (j : Fin 1024) (h : Fin 64) (d : Fin 128) :
    blk0 k (ix4 0 j h d) = k (ix4 0 ⟨0 + j.val, by omega⟩ h d) := by
  pointwise [blk0]
/-- Block 1 at an index. -/
theorem blk1_apply (k : FVec Ideal S1x4096x64x128 .bf16) (j : Fin 1024) (h : Fin 64) (d : Fin 128) :
    blk1 k (ix4 0 j h d) = k (ix4 0 ⟨1024 + j.val, by omega⟩ h d) := by
  pointwise [blk1]
/-- Block 2 at an index. -/
theorem blk2_apply (k : FVec Ideal S1x4096x64x128 .bf16) (j : Fin 1024) (h : Fin 64) (d : Fin 128) :
    blk2 k (ix4 0 j h d) = k (ix4 0 ⟨2048 + j.val, by omega⟩ h d) := by
  pointwise [blk2]
/-- Block 3 at an index. -/
theorem blk3_apply (k : FVec Ideal S1x4096x64x128 .bf16) (j : Fin 1024) (h : Fin 64) (d : Fin 128) :
    blk3 k (ix4 0 j h d) = k (ix4 0 ⟨3072 + j.val, by omega⟩ h d) := by
  pointwise [blk3]

/-- The first maximum is −∞. -/
theorem start_mx (i : Fin 2048) (h : Fin 64) : (start (F := Ideal)).mx (ix4 0 h i 0) = Ideal.ofBits .f32 0xFF800000#32 := by
  pointwise [start]
/-- The first denominator is zero. -/
theorem start_l (i : Fin 2048) (h : Fin 64) : (start (F := Ideal)).l (ix4 0 h i 0) = 0 := by
  pointwise [start]
/-- The first numerator is zero. -/
theorem start_o (i : Fin 2048) (h : Fin 64) (d : Fin 128) : (start (F := Ideal)).o (ix4 0 i h d) = 0 := by
  pointwise [start]

/-- The result: the quotients of every head and coordinate against the output weights. -/
theorem project_apply (t : Held Ideal) (wo : FVec Ideal S8192x1024 .bf16) (i : Fin 2048) (e : Fin 1024) :
    project t wo (ix3 0 i e)
      = ∑ n : Fin 8192, Ideal.div (t.o (ix4 0 i ⟨n.val / 128, by omega⟩ ⟨n.val % 128, by omega⟩)) (t.l (ix4 0 ⟨n.val / 128, by omega⟩ i 0)) * wo (ix2 n e) := by
  pointwise [project]

end Cert.ReferenceIdeal.Stage

end
-- ==== Proof.Online.lean ====
/-
  Softmax over the extended reals, kept block by block. A running maximum, denominator and numerator are, after every
  block, the plain sums of exponentials scaled by one positive factor; the factor cancels in the quotient.
-/
module

public import Idealize.ShloMosaic.PureOps.Ideal

@[expose] public section

noncomputable section

namespace Cert.Online

open Idealize.ShloMosaic

/-- A nonnegative real factor distributes over a sum of two. -/
theorem coe_mul_add {a : ℝ} (ha : 0 ≤ a) (x y : EReal) : (a : EReal) * (x + y) = a * x + a * y :=
  EReal.left_distrib_of_nonneg_of_ne_top (EReal.coe_nonneg.mpr ha) (EReal.coe_ne_top a) x y

/-- A nonnegative real factor distributes over a finite sum. -/
theorem coe_mul_sum {ι : Type} (S : Finset ι) {a : ℝ} (ha : 0 ≤ a) (f : ι → EReal) : (a : EReal) * ∑ i ∈ S, f i = ∑ i ∈ S, a * f i := by
  classical
  induction S using Finset.induction_on with
  | empty => simp
  | insert i S hi ih => rw [Finset.sum_insert hi, Finset.sum_insert hi, coe_mul_add ha, ih]

/-- A finite sum of reals is real. -/
theorem sum_coe {ι : Type} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- Being a real number. -/
def IsReal (x : EReal) : Prop := ∃ r : ℝ, x = r

/-- A product of reals is real. -/
theorem IsReal.mul {x y : EReal} : IsReal x → IsReal y → IsReal (x * y) := by
  rintro ⟨a, rfl⟩ ⟨b, rfl⟩
  exact ⟨a * b, (EReal.coe_mul a b).symm⟩

/-- A finite sum of reals is real. -/
theorem IsReal.sum {ι : Type} (S : Finset ι) {f : ι → EReal} (h : ∀ i, IsReal (f i)) : IsReal (∑ i ∈ S, f i) := by
  choose g hg using h
  exact ⟨∑ i ∈ S, g i, by rw [← sum_coe]; exact Finset.sum_congr rfl fun i _ => hg i⟩

/-- What is below ⊤ in absolute value is real. -/
theorem IsReal.of_abs {x : EReal} (h : max x (-x) < ⊤) : IsReal x := by
  induction x with
  | bot => simp at h
  | coe r => exact ⟨r, rfl⟩
  | top => simp at h

/-- The greater of ⊥, or a real, and the greatest of some reals is real. -/
theorem IsReal.max_fold {n : ℕ} {M : EReal} (hM : M < ⊤) {s : Fin (n + 1) → EReal} (hs : ∀ j, IsReal (s j)) :
    IsReal (max M ((Finset.univ : Finset (Fin (n + 1))).fold max ⊥ s)) := by
  have hlt : max M ((Finset.univ : Finset (Fin (n + 1))).fold max ⊥ s) < ⊤ :=
    max_lt hM (Finset.fold_max_lt _ |>.mpr ⟨bot_lt_top, fun j _ => by obtain ⟨r, e⟩ := hs j; rw [e]; exact EReal.coe_lt_top r⟩)
  have hgt : ⊥ < max M ((Finset.univ : Finset (Fin (n + 1))).fold max ⊥ s) :=
    lt_max_of_lt_right (Finset.lt_fold_max _ |>.mpr (.inr ⟨0, Finset.mem_univ _, by obtain ⟨r, e⟩ := hs 0; rw [e]; exact EReal.bot_lt_coe r⟩))
  exact ⟨_, (EReal.coe_toReal hlt.ne hgt.ne').symm⟩

/-- A denominator and a numerator kept against a real maximum: `A` and `B` scaled by one positive factor. -/
def Kept (M L O A B : EReal) : Prop := ∃ m : ℝ, M = m ∧ L = (Real.exp (-m) : ℝ) * A ∧ O = (Real.exp (-m) : ℝ) * B

/-- The exponential of a real over a real, as a product. -/
theorem exp_sub_coe (s m : ℝ) : Ideal.exp ((s : EReal) - m) = (Real.exp (-m) : ℝ) * Ideal.exp (s : EReal) := by
  rw [← EReal.coe_sub, Ideal.exp_coe, Ideal.exp_coe, ← EReal.coe_mul, ← Real.exp_add]
  congr 2
  ring

/-- A block's denominators against a maximum: the plain sum, scaled. -/
theorem block_den {n : ℕ} (m : ℝ) {s : Fin n → EReal} (hs : ∀ j, IsReal (s j)) :
    ∑ j, Ideal.exp (s j - m) = (Real.exp (-m) : ℝ) * ∑ j, Ideal.exp (s j) := by
  rw [coe_mul_sum _ (Real.exp_pos _).le]
  refine Finset.sum_congr rfl fun j _ => ?_
  obtain ⟨r, e⟩ := hs j
  rw [e, exp_sub_coe]

/-- A block's numerators against a maximum: the plain weighted sum, scaled. -/
theorem block_num {n : ℕ} (m : ℝ) {s v : Fin n → EReal} (hs : ∀ j, IsReal (s j)) :
    ∑ j, v j * Ideal.exp (s j - m) = (Real.exp (-m) : ℝ) * ∑ j, Ideal.exp (s j) * v j := by
  rw [coe_mul_sum _ (Real.exp_pos _).le]
  refine Finset.sum_congr rfl fun j _ => ?_
  obtain ⟨r, e⟩ := hs j
  rw [e, exp_sub_coe, mul_comm, mul_assoc]

/-- The first block, from zeros: whatever the factor between the maxima, nothing was held. -/
theorem Kept.first {n : ℕ} {M f : EReal} (hM : IsReal M) {s v : Fin n → EReal} (hs : ∀ j, IsReal (s j)) :
    Kept M (0 * f + ∑ j, Ideal.exp (s j - M)) (0 * f + ∑ j, v j * Ideal.exp (s j - M)) (∑ j, Ideal.exp (s j)) (∑ j, Ideal.exp (s j) * v j) := by
  obtain ⟨m, rfl⟩ := hM
  exact ⟨m, rfl, by rw [zero_mul, zero_add, block_den m hs], by rw [zero_mul, zero_add, block_num m hs]⟩

/-- A further block: what is held moves to the new maximum, and the block's own sums join it. -/
theorem Kept.next {n : ℕ} {M M' L O A B : EReal} (h : Kept M L O A B) (hM : IsReal M') {s v : Fin n → EReal} (hs : ∀ j, IsReal (s j)) :
    Kept M' (L * Ideal.exp (M - M') + ∑ j, Ideal.exp (s j - M')) (O * Ideal.exp (M - M') + ∑ j, v j * Ideal.exp (s j - M'))
      (A + ∑ j, Ideal.exp (s j)) (B + ∑ j, Ideal.exp (s j) * v j) := by
  obtain ⟨m', rfl⟩ := hM
  obtain ⟨m, rfl, rfl, rfl⟩ := h
  have e (x : EReal) : (Real.exp (-m) : ℝ) * x * Ideal.exp ((m : EReal) - m') = (Real.exp (-m') : ℝ) * x := by
    rw [exp_sub_coe, Ideal.exp_coe, mul_comm (_ * x), mul_assoc, ← mul_assoc _ _ x, ← EReal.coe_mul, ← Real.exp_add, add_neg_cancel, Real.exp_zero,
      EReal.coe_one, one_mul]
  exact ⟨m', rfl, by rw [e, block_den m' hs, coe_mul_add (Real.exp_pos _).le], by rw [e, block_num m' hs, coe_mul_add (Real.exp_pos _).le]⟩

/-- The quotient of what is kept is the quotient of the plain sums, the plain denominator a positive real. -/
theorem Kept.div {M L O A B : EReal} (h : Kept M L O A B) {a : ℝ} (ha : 0 < a) (hA : A = a) : Ideal.div O L = Ideal.div B A := by
  obtain ⟨m, -, rfl, rfl⟩ := h
  have hm := Real.exp_pos (-m)
  rw [hA, ← EReal.coe_mul, Ideal.div_coe (mul_pos hm ha).ne', Ideal.div_coe ha.ne', mul_comm _ B, mul_assoc, ← EReal.coe_mul]
  congr 2
  field_simp

/-- The sum of the exponentials of some reals is a positive real. -/
theorem sum_exp_pos {n : ℕ} {s : Fin (n + 1) → EReal} (hs : ∀ j, IsReal (s j)) : ∃ a : ℝ, 0 < a ∧ ∑ j, Ideal.exp (s j) = a := by
  choose r hr using hs
  refine ⟨∑ j, Real.exp (r j), Finset.sum_pos (fun j _ => Real.exp_pos _) ⟨0, Finset.mem_univ _⟩, ?_⟩
  rw [← sum_coe]
  exact Finset.sum_congr rfl fun j _ => by rw [hr j, Ideal.exp_coe]

/-- A sum over `a * b` places by blocks of `b`. -/
theorem sum_blocks {M : Type} [AddCommMonoid M] {N a b : ℕ} (hN : N = a * b) (f : Fin N → M) :
    ∑ n, f n = ∑ i : Fin a, ∑ j : Fin b, f ⟨i.val * b + j.val, by
      subst hN
      calc i.val * b + j.val < i.val * b + b := by omega
        _ = (i.val + 1) * b := by ring
        _ ≤ a * b := Nat.mul_le_mul_right b i.isLt⟩ := by
  subst hN
  rw [← finProdFinEquiv.sum_comp, Fintype.sum_prod_type]
  refine Finset.sum_congr rfl fun i _ => Finset.sum_congr rfl fun j _ => congrArg f (Fin.ext ?_)
  simp [finProdFinEquiv]
  ring

end Cert.Online

end
-- ==== Proof.Attend.lean ====
/-
  One attention output coordinate as mathematics: the scaled score of a row against a key, the softmax-weighted mean of
  the values, and that scores of real data are real.
-/
module

public import proofs.«01_k».proof.Proof.Online

@[expose] public section

noncomputable section

namespace Cert.Online

open Idealize.ShloMosaic

/-- The scale of the scores. -/
def scale : EReal := Ideal.ofBits .f32 0x3DB504F3#32

/-- The scale is a positive real. -/
theorem scale_pos : ∃ r : ℝ, 0 < r ∧ scale = r := by
  refine ⟨_, ?_, by simp [scale, Ideal.ofBits, Ideal.ieee, -EReal.coe_mul]; rfl⟩
  norm_num

/-- The scaled score of a row `x`, through a head's query weights `w`, against a key `k`. -/
def score {E D : ℕ} (x : Fin E → EReal) (w : Fin E → Fin D → EReal) (k : Fin D → EReal) : EReal :=
  (∑ d, (∑ e, x e * w e d) * k d) * scale

/-- The score with the factors of the query in the other order and the scale inside. -/
theorem score_eq {E D : ℕ} (x : Fin E → EReal) (w : Fin E → Fin D → EReal) (k : Fin D → EReal) :
    ∑ d, (∑ e, w e d * x e) * scale * k d = score x w k := by
  obtain ⟨r, hr, e⟩ := scale_pos
  unfold score
  rw [e, mul_comm, coe_mul_sum _ hr.le]
  refine Finset.sum_congr rfl fun d _ => ?_
  rw [mul_comm _ (r : EReal), mul_assoc]
  exact congrArg (fun y => (r : EReal) * (y * k d)) (Finset.sum_congr rfl fun i _ => mul_comm _ _)

/-- The score of real data is real. -/
theorem score_real {E D : ℕ} {x : Fin E → EReal} {w : Fin E → Fin D → EReal} {k : Fin D → EReal} (hx : ∀ e, IsReal (x e))
    (hw : ∀ e d, IsReal (w e d)) (hk : ∀ d, IsReal (k d)) : IsReal (score x w k) :=
  (IsReal.sum _ fun d => (IsReal.sum _ fun e => (hx e).mul (hw e d)).mul (hk d)).mul (by obtain ⟨r, -, e⟩ := scale_pos; exact ⟨r, e⟩)

/-- The mean of the values weighted by the exponentials of the scores. -/
def mean {N : ℕ} (s v : Fin N → EReal) : EReal := Ideal.div (∑ j, Ideal.exp (s j) * v j) (∑ j, Ideal.exp (s j))

end Cert.Online

end
-- ==== Proof.RefValue.lean ====
/-
  The reference's value at an index: when the rows, the query weights and the keys are real, the four passes leave, in
  quotient, the softmax-weighted mean of the values, and the result is these means against the output weights.
-/
module

public import proofs.«01_k».proof.Proof.RefRead
public import proofs.«01_k».proof.Proof.Attend

@[expose] public section

set_option maxRecDepth 16384

noncomputable section

namespace Cert.ReferenceIdeal.Stage

open Idealize.ShloMosaic Idealize.ShloMosaic.TcCoe
open Cert.ReferenceIdeal Cert.Online

variable [Cert.ReferenceIdeal.Facts]

/-- The score of row `i` against key `j`, head `h`. -/
def sc (x : FVec Ideal S1x2048x1024 .bf16) (wq : FVec Ideal S1024x8192 .bf16) (k : FVec Ideal S1x4096x64x128 .bf16) (i : Fin 2048) (h : Fin 64) (j : Fin 4096) : EReal :=
  score (fun e : Fin 1024 => x (ix3 0 i e)) (fun e (d : Fin 128) => wq (ix2 e ⟨h.val * 128 + d.val, by omega⟩)) (fun d => k (ix4 0 j h d))

/-- −∞ as a word. -/
theorem neg_inf : Ideal.ofBits .f32 0xFF800000#32 = ⊥ := by simp [Ideal.ofBits, Ideal.ieee]

/-- The maximum after a pass is real. -/
theorem pass_mx_real {q : FVec Ideal S1x2048x64x128 .f32} {k v : FVec Ideal S1x1024x64x128 .f32} {t : Held Ideal} {i : Fin 2048} {h : Fin 64}
    (ht : t.mx (ix4 0 h i 0) < ⊤) (hs : ∀ j, IsReal (scores q k (ix4 0 h i j))) : IsReal ((pass q k v t).mx (ix4 0 h i 0)) := by
  have e : (pass q k v t).mx (ix4 0 h i 0) = _ := maxima_apply t.mx (scores q k) i h
  rw [e, neg_inf]
  exact IsReal.max_fold ht hs

/-- The denominator after a pass. -/
theorem pass_l (q : FVec Ideal S1x2048x64x128 .f32) (k v : FVec Ideal S1x1024x64x128 .f32) (t : Held Ideal) (i : Fin 2048) (h : Fin 64) :
    (pass q k v t).l (ix4 0 h i 0) = t.l (ix4 0 h i 0) * Ideal.exp (t.mx (ix4 0 h i 0) - (pass q k v t).mx (ix4 0 h i 0))
      + ∑ j, Ideal.exp (scores q k (ix4 0 h i j) - (pass q k v t).mx (ix4 0 h i 0)) := by
  refine (denoms_apply t.l _ _ i h).trans ?_
  rw [factor_apply]
  exact congrArg _ (Finset.sum_congr rfl fun j _ => weights_apply _ _ i h j)

/-- The numerator after a pass. -/
theorem pass_o (q : FVec Ideal S1x2048x64x128 .f32) (k v : FVec Ideal S1x1024x64x128 .f32) (t : Held Ideal) (i : Fin 2048) (h : Fin 64) (d : Fin 128) :
    (pass q k v t).o (ix4 0 i h d) = t.o (ix4 0 i h d) * Ideal.exp (t.mx (ix4 0 h i 0) - (pass q k v t).mx (ix4 0 h i 0))
      + ∑ j, v (ix4 0 j h d) * Ideal.exp (scores q k (ix4 0 h i j) - (pass q k v t).mx (ix4 0 h i 0)) := by
  refine (numers_apply t.o _ v _ i h d).trans ?_
  rw [factor_apply]
  exact congrArg _ (Finset.sum_congr rfl fun j _ => congrArg _ (weights_apply _ _ i h j))

/-- What is held at an index against plain sums. -/
abbrev KeptAt (t : Held Ideal) (i : Fin 2048) (h : Fin 64) (d : Fin 128) (A B : EReal) : Prop :=
  Kept (t.mx (ix4 0 h i 0)) (t.l (ix4 0 h i 0)) (t.o (ix4 0 i h d)) A B

/-- The first pass. -/
theorem pass_first {q : FVec Ideal S1x2048x64x128 .f32} {k v : FVec Ideal S1x1024x64x128 .f32} {i : Fin 2048} {h : Fin 64} {d : Fin 128}
    (hs : ∀ j, IsReal (scores q k (ix4 0 h i j))) :
    KeptAt (pass q k v start) i h d (∑ j, Ideal.exp (scores q k (ix4 0 h i j))) (∑ j, Ideal.exp (scores q k (ix4 0 h i j)) * v (ix4 0 j h d)) := by
  unfold KeptAt
  rw [pass_l, pass_o, start_l, start_o]
  exact Kept.first (pass_mx_real (by rw [start_mx, neg_inf]; exact bot_lt_top) hs) hs

/-- A further pass. -/
theorem pass_next {q : FVec Ideal S1x2048x64x128 .f32} {k v : FVec Ideal S1x1024x64x128 .f32} {t : Held Ideal} {i : Fin 2048} {h : Fin 64} {d : Fin 128} {A B : EReal}
    (ht : KeptAt t i h d A B) (hs : ∀ j, IsReal (scores q k (ix4 0 h i j))) :
    KeptAt (pass q k v t) i h d (A + ∑ j, Ideal.exp (scores q k (ix4 0 h i j))) (B + ∑ j, Ideal.exp (scores q k (ix4 0 h i j)) * v (ix4 0 j h d)) := by
  unfold KeptAt
  rw [pass_l, pass_o]
  exact ht.next (pass_mx_real (by obtain ⟨m, e, -⟩ := ht; rw [e]; exact EReal.coe_lt_top m) hs) hs

/-- A block's score is the array's. -/
theorem scores_blk {x : FVec Ideal S1x2048x1024 .bf16} {wq : FVec Ideal S1024x8192 .bf16} {k : FVec Ideal S1x4096x64x128 .bf16} {b : FVec Ideal S1x1024x64x128 .f32}
    {f : Fin 1024 → Fin 4096} (hb : ∀ j h d, b (ix4 0 j h d) = k (ix4 0 (f j) h d)) (i : Fin 2048) (h : Fin 64) (j : Fin 1024) :
    scores (queries x wq) b (ix4 0 h i j) = sc x wq k i h (f j) := by
  rw [scores_apply]
  refine congrArg (· * _) (Finset.sum_congr rfl fun d _ => ?_)
  rw [queries_apply, hb]

/-- The quotient the four passes leave is the weighted mean of the values. -/
theorem final_div {x : FVec Ideal S1x2048x1024 .bf16} {wq : FVec Ideal S1024x8192 .bf16} {k v : FVec Ideal S1x4096x64x128 .bf16}
    (hs : ∀ i h j, IsReal (sc x wq k i h j)) (i : Fin 2048) (h : Fin 64) (d : Fin 128) :
    Ideal.div ((final x wq k v).o (ix4 0 i h d)) ((final x wq k v).l (ix4 0 h i 0)) = mean (sc x wq k i h) (fun j => v (ix4 0 j h d)) := by
  have e0 := scores_blk (x := x) (wq := wq) (blk0_apply k) i h
  have e1 := scores_blk (x := x) (wq := wq) (blk1_apply k) i h
  have e2 := scores_blk (x := x) (wq := wq) (blk2_apply k) i h
  have e3 := scores_blk (x := x) (wq := wq) (blk3_apply k) i h
  have k0 := pass_first (q := queries x wq) (k := blk0 k) (v := blk0 v) (i := i) (h := h) (d := d) fun j => by rw [e0]; exact hs ..
  have k1 := pass_next (q := queries x wq) (k := blk1 k) (v := blk1 v) k0 fun j => by rw [e1]; exact hs ..
  have k2 := pass_next (q := queries x wq) (k := blk2 k) (v := blk2 v) k1 fun j => by rw [e2]; exact hs ..
  have k3 := pass_next (q := queries x wq) (k := blk3 k) (v := blk3 v) k2 fun j => by rw [e3]; exact hs ..
  simp only [e0, e1, e2, e3, blk0_apply, blk1_apply, blk2_apply, blk3_apply] at k3
  obtain ⟨a, ha, eA⟩ := sum_exp_pos (n := 4095) (hs i h)
  have sA := sum_blocks (N := 4096) (a := 4) (b := 1024) rfl fun j => Ideal.exp (sc x wq k i h j)
  have sB := sum_blocks (N := 4096) (a := 4) (b := 1024) rfl fun j => Ideal.exp (sc x wq k i h j) * v (ix4 0 j h d)
  rw [Fin.sum_univ_four] at sA sB
  refine (k3.div ha (sA.symm.trans eA)).trans ?_
  unfold mean
  rw [sA, sB]
  rfl

/-- The reference's result at an index. -/
theorem value_apply {x : FVec Ideal S1x2048x1024 .bf16} {wq : FVec Ideal S1024x8192 .bf16} {k v : FVec Ideal S1x4096x64x128 .bf16} (wo : FVec Ideal S8192x1024 .bf16)
    (hx : ∀ i e, IsReal (x (ix3 0 i e))) (hw : ∀ e n, IsReal (wq (ix2 e n))) (hk : ∀ j h d, IsReal (k (ix4 0 j h d))) (i : Fin 2048) (e : Fin 1024) :
    project (final x wq k v) wo (ix3 0 i e)
      = ∑ n : Fin 8192, mean (sc x wq k i ⟨n.val / 128, by omega⟩) (fun j => v (ix4 0 j ⟨n.val / 128, by omega⟩ ⟨n.val % 128, by omega⟩)) * wo (ix2 n e) := by
  rw [project_apply]
  exact Finset.sum_congr rfl fun n _ => congrArg (· * _) (final_div (fun i h j => score_real (fun _ => hx _ _) (fun _ _ => hw _ _) (fun _ => hk _ _ _)) i _ _)

end Cert.ReferenceIdeal.Stage

end
-- ==== Proof.KernelValue.lean ====
/-
  The kernel's value at an index: a device's heads applied to some rows, the sum the ring gathers over its eight hops, and
  the result, the sum over all devices of their heads applied to the device's own rows.
-/
module

public import proofs.«01_k».proof.Proof.Launch
public import proofs.«01_k».proof.Proof.Attend
public import Idealize.ShloMosaic.Lib.Pointwise

@[expose] public section

set_option maxRecDepth 16384

noncomputable section

namespace Cert.KernelIdeal.Pass

open Idealize.ShloMosaic Idealize.ShloMosaic.TcCoe
open Cert.KernelIdeal Cert.KernelIdeal.Gen Cert.Online

/-- The heads of one device applied to rows, at an index. -/
theorem heads_apply (X : Vec Ideal S1x256x1024 .bf16) (wq : Vec Ideal S8x1024x128 .bf16) (k v : Vec Ideal S8x4096x128 .bf16) (wo : Vec Ideal S8x128x1024 .bf16)
    (h : Fin 8) (r : Fin 256) (e : Fin 1024) :
    k0_pay2 X wq k v wo (ix3 h r e)
      = ∑ d : Fin 128, mean (fun j : Fin 4096 => score (fun i : Fin 1024 => X (ix3 0 r i)) (fun i (d : Fin 128) => wq (ix3 h i d)) (fun d => k (ix3 h j d)))
          (fun j => v (ix3 h j d)) * wo (ix3 h d e) := by
  simp only [mean, ← score_eq, scale]
  pointwise [k0_pay2]

/-- One more device's heads joined to a sum, at an index. -/
theorem join_apply (X : FVec Ideal S8x256x1024 .f32) (s : Vec Ideal S1x256x1024 .bf16) (r : Fin 256) (e : Fin 1024) :
    k0_pay5 X s (ix3 0 r e) = s (ix3 0 r e) + ∑ h : Fin 8, X (ix3 h r e) := by
  pointwise [k0_pay5]

/-- The first sum is zero. -/
theorem zero_apply (r : Fin 256) (e : Fin 1024) : (k0_pay4 (F := Ideal)) (ix3 0 r e) = 0 := by
  pointwise [k0_pay4]

/-- The last sum as the result holds it. -/
theorem last_apply (s : Vec Ideal S1x256x1024 .bf16) (r : Fin 256) (e : Fin 1024) : k0_pay1 s (ix2 r e) = s (ix3 0 r e) := by
  pointwise [k0_pay1]

/-- The rows as a slot holds them. -/
theorem row_apply (s : Vec Ideal S256x1024 .bf16) (r : Fin 256) (e : Fin 1024) : k0_pay3 s (ix3 0 r e) = s (ix2 r e) := by
  pointwise [k0_pay3]

variable (D : Dev nD → Inp Ideal)

/-- What device `p`'s heads give for row `r` of device `c`, output coordinate `e`. -/
def part (p c : Dev nD) (r : Fin 256) (e : Fin 1024) : EReal :=
  ∑ h : Fin 8, ∑ d : Fin 128, mean (fun j : Fin 4096 => score (fun i : Fin 1024 => (D c).x (ix2 r i)) (fun i (d : Fin 128) => (D p).wq (ix3 h i d)) (fun d => (D p).k (ix3 h j d)))
    (fun j => (D p).v (ix3 h j d)) * (D p).wo (ix3 h d e)

/-- The rows of hop `h` are those of the device `h` places before. -/
theorem rows_eq (h : ℕ) (c : Dev nD) : rows D h c = k0_pay3 (D (prv^[h] c)).x := by
  induction h generalizing c with
  | zero => rfl
  | succ h ih => exact ih (prv c)

/-- The sum before hop `h`: of the `h` devices before, each applied to the rows of the device `h` places before. -/
theorem sums_apply (h : ℕ) (c : Dev nD) (r : Fin 256) (e : Fin 1024) :
    sums D h c (ix3 0 r e) = ∑ t ∈ Finset.range h, part D (prv^[t + 1] c) (prv^[h] c) r e := by
  induction h generalizing c with
  | zero => exact (zero_apply r e).trans (by simp)
  | succ h ih =>
    rw [sums, join_apply, ih, Finset.sum_range_succ']
    refine congrArg _ (Finset.sum_congr rfl fun a _ => ?_)
    rw [heads, heads_apply, rows_eq]
    simp only [row_apply]
    rfl

/-- Eight places back is where one started. -/
theorem prv_eight (c : Dev nD) : prv^[8] c = c := by revert c; decide

/-- The eight devices before a device are all the devices. -/
theorem prv_all (c : Dev nD) : (Finset.range 8).image (fun t => prv^[t + 1] c) = Finset.univ := by revert c; decide

/-- They are distinct. -/
theorem prv_inj (c : Dev nD) : Set.InjOn (fun t => prv^[t + 1] c) (Finset.range 8 : Set ℕ) :=
  Finset.card_image_iff.mp (by rw [prv_all]; rfl)

/-- The result on device `c`: the sum over all devices. -/
theorem result_apply (c : Dev nD) (r : Fin 256) (e : Fin 1024) : result D c (ix2 r e) = ∑ p : Dev nD, part D p c r e := by
  rw [result, last_apply, sums_apply, prv_eight, ← prv_all c, Finset.sum_image (prv_inj c)]

end Cert.KernelIdeal.Pass

end
-- ==== Proof.HostRead.lean ====
/-
  What the kernel's operands hold at an index, in terms of the program's arguments: the rows and the output weights are
  the arguments reshaped, the query weights also transposed, the keys and the values sliced at the device's own heads.
-/
module

public import proofs.«01_k».proof.Proof.Launch
public import Idealize.ShloMosaic.Lib.Pointwise
public import Idealize.ShloMosaic.Lib.StableHlo.ReadAt
public import Idealize.ShloMosaic.Lib.DynamicIndex

@[expose] public section

set_option maxRecDepth 16384

noncomputable section

namespace Cert.KernelIdeal.Pass

open Idealize.ShloMosaic Idealize.ShloMosaic.TcCoe
open Cert.KernelIdeal Cert.KernelIdeal.Gen

/-- Head `h` of device `c` among all heads. -/
def headOf (c : Dev nD) (h : Fin 8) : Fin 64 := ⟨c.val * 8 + h.val, by have : c.val < 8 := c.isLt; omega⟩

variable (m : (ℓ : Loc nD τ sig) → Buf (Elt Ideal) ℓ) (c : Dev nD)

/-- The rows. -/
theorem x_apply (r : Fin 256) (e : Fin 1024) : V1 m c main_v5 (ix2 r e) = m ((c : Thread nD τ).loc main_arg0) (ix3 0 r e) := by
  unfold V1
  after_reads_at

/-- The query weights. -/
theorem wq_apply (h : Fin 8) (e : Fin 1024) (d : Fin 128) : V1 m c main_v7 (ix3 h e d) = m ((c : Thread nD τ).loc main_arg1) (ix2 e ⟨h.val * 128 + d.val, by omega⟩) := by
  unfold V1
  after_reads_at

/-- The output weights. -/
theorem wo_apply (h : Fin 8) (e : Fin 1024) (d : Fin 128) : V1 m c main_v8 (ix3 h d e) = m ((c : Thread nD τ).loc main_arg4) (ix2 ⟨h.val * 128 + d.val, by omega⟩ e) := by
  unfold V1
  after_reads_at

/-- The word of the first head of device `c`, as the keys are sliced. -/
theorem k_start (i : S_.Idx) : (StableHlo.upto (hostOps0 c) (V0 m c) 20 (Proc.tc.devRef main_v13) : IVec S_ 32) i = BitVec.ofNat 32 (c.val * 8) := by
  after_reads_at
  simp only [Host.remui, Host.divui, constantI, id]
  revert c
  clear m i
  decide

/-- The word of the first head of device `c`, as the values are sliced. -/
theorem v_start (i : S_.Idx) : (StableHlo.upto (hostOps0 c) (V0 m c) 32 (Proc.tc.devRef main_v20) : IVec S_ 32) i = BitVec.ofNat 32 (c.val * 8) := by
  after_reads_at
  simp only [Host.remui, Host.divui, constantI, id]
  revert c
  clear m i
  decide

/-- A slice of heads that starts at the word of `8 c`, clamped into the array, starts there. -/
theorem start_eq (f : Fin 3 → Int) (hf : f 1 = ((BitVec.ofNat 32 (c.val * 8)).toInt)) (hr : S4096x8x128.rank = S4096x64x128.rank) :
    Host.clampedStart S4096x64x128 S4096x8x128 hr f 0 = 0 ∧ Host.clampedStart S4096x64x128 S4096x8x128 hr f 1 = c.val * 8
      ∧ Host.clampedStart S4096x64x128 S4096x8x128 hr f 2 = 0 := by
  have hc : c.val < 8 := c.isLt
  rw [toInt_ofNat_of_lt (by omega)] at hf
  refine ⟨?_, ?_, ?_⟩
  · show (min (max (f 0) 0) ((4096 - 4096 : ℕ) : Int)).toNat = 0
    omega
  · show (min (max (f 1) 0) ((64 - 8 : ℕ) : Int)).toNat = c.val * 8
    omega
  · show (min (max (f 2) 0) ((128 - 128 : ℕ) : Int)).toNat = 0
    omega

/-- The place a slice of heads is read from. -/
theorem slice_idx (f : Fin 3 → Int) (hr : S4096x8x128.rank = S4096x64x128.rank) (hf : f 1 = ((BitVec.ofNat 32 (c.val * 8)).toInt)) (h : Fin 8) (j : Fin 4096) (d : Fin 128)
    (p0 : Host.clampedStart S4096x64x128 S4096x8x128 hr f 0 + j.val < 4096) (p1 : Host.clampedStart S4096x64x128 S4096x8x128 hr f 1 + h.val < 64)
    (p2 : Host.clampedStart S4096x64x128 S4096x8x128 hr f 2 + d.val < 128) :
    (ix4 (n0 := 1) 0 ⟨_, p0⟩ ⟨_, p1⟩ ⟨_, p2⟩) = ix4 0 j (headOf c h) d := by
  obtain ⟨e0, e1, e2⟩ := start_eq c f hf hr
  have q0 : (⟨_, p0⟩ : Fin 4096) = j := Fin.ext (by rw [Fin.val_mk, e0, Nat.zero_add])
  have q1 : (⟨_, p1⟩ : Fin 64) = headOf c h := Fin.ext (by rw [Fin.val_mk, e1]; rfl)
  have q2 : (⟨_, p2⟩ : Fin 128) = d := Fin.ext (by rw [Fin.val_mk, e2, Nat.zero_add])
  rw [q0, q1, q2]

/-- The keys of the device's heads. -/
theorem k_apply (h : Fin 8) (j : Fin 4096) (d : Fin 128) : V1 m c main_v15 (ix3 h j d) = m ((c : Thread nD τ).loc main_arg2) (ix4 0 j (headOf c h) d) := by
  unfold V1
  after_reads_at
  refine congrArg (m ((c : Thread nD τ).loc main_arg2)) ?_
  apply slice_idx c
  have e := k_start m c (Shape.Idx.first h_S_)
  rw [← e]
  rfl

/-- The values of the device's heads. -/
theorem v_apply (h : Fin 8) (j : Fin 4096) (d : Fin 128) : V1 m c main_v22 (ix3 h j d) = m ((c : Thread nD τ).loc main_arg3) (ix4 0 j (headOf c h) d) := by
  unfold V1
  after_reads_at
  refine congrArg (m ((c : Thread nD τ).loc main_arg3)) ?_
  apply slice_idx c
  have e := v_start m c (Shape.Idx.first h_S_)
  rw [← e]
  rfl

/-- The program's result from the kernel's. -/
theorem out_apply (outs : Outs (F := Ideal)) (r : Fin 256) (e : Fin 1024) : V3 m outs c main_v24 (ix3 0 r e) = outs 2 main_v23 c (ix2 r e) := by
  unfold V3
  after_reads_at
  simp only [V2, Function.update_self]

end Cert.KernelIdeal.Pass

end
-- ==== Proof.Equation.lean ====
/-
  The equation: what the ring gathers on device `c`, when each device holds its share of the whole arrays and the rows, the
  query weights and the keys are real, is the reference's result at the device's rows.
-/
module

public import proofs.«01_k».proof.Proof.RefValue
public import proofs.«01_k».proof.Proof.KernelValue
public import proofs.«01_k».proof.Proof.HostRead

@[expose] public section

set_option maxRecDepth 16384

noncomputable section

namespace Cert.Equation

open Idealize.ShloMosaic Idealize.ShloMosaic.TcCoe
open Cert.Online
open Cert.KernelIdeal (nD)
open Cert.KernelIdeal.Pass (Inp part headOf)
open Cert.ReferenceIdeal (S1x2048x1024 S1024x8192 S1x4096x64x128 S8192x1024)
open Cert.ReferenceIdeal.Stage

/-- Row `r` of device `c` among all rows. -/
def rowOf (c : Dev nD) (r : Fin 256) : Fin 2048 := ⟨c.val * 256 + r.val, by have : c.val < 8 := c.isLt; omega⟩
/-- Column `q` of device `p` among all columns of the query weights, which is also row `q` among all rows of the output weights. -/
def colOf (p : Dev nD) (q : Fin 1024) : Fin 8192 := ⟨p.val * 1024 + q.val, by have : p.val < 8 := p.isLt; omega⟩
/-- Coordinate `d` of head `h` among a device's columns. -/
def inHead (h : Fin 8) (d : Fin 128) : Fin 1024 := ⟨h.val * 128 + d.val, by omega⟩

/-- Each device holds its share of the whole arrays. -/
structure Shares (D : Dev nD → Inp Ideal) (x : FVec Ideal S1x2048x1024 .bf16) (wq : FVec Ideal S1024x8192 .bf16)
    (k v : FVec Ideal S1x4096x64x128 .bf16) (wo : FVec Ideal S8192x1024 .bf16) : Prop where
  x : ∀ c r e, (D c).x (ix2 r e) = x (ix3 0 (rowOf c r) e)
  wq : ∀ p h e d, (D p).wq (ix3 h e d) = wq (ix2 e (colOf p (inHead h d)))
  k : ∀ p h j d, (D p).k (ix3 h j d) = k (ix4 0 j (headOf p h) d)
  v : ∀ p h j d, (D p).v (ix3 h j d) = v (ix4 0 j (headOf p h) d)
  wo : ∀ p h d e, (D p).wo (ix3 h d e) = wo (ix2 (colOf p (inHead h d)) e)

variable [Cert.ReferenceIdeal.Facts]
variable {D : Dev nD → Inp Ideal} {x : FVec Ideal S1x2048x1024 .bf16} {wq : FVec Ideal S1024x8192 .bf16}
    {k v : FVec Ideal S1x4096x64x128 .bf16} {wo : FVec Ideal S8192x1024 .bf16}

/-- One device's part in terms of the whole arrays. -/
theorem part_eq (H : Shares D x wq k v wo) (p c : Dev nD) (r : Fin 256) (e : Fin 1024) :
    part D p c r e = ∑ h : Fin 8, ∑ d : Fin 128,
      mean (sc x wq k (rowOf c r) (headOf p h)) (fun j => v (ix4 0 j (headOf p h) d)) * wo (ix2 (colOf p (inHead h d)) e) := by
  have hc (h : Fin 8) (d : Fin 128) : colOf p (inHead h d) = ⟨(headOf p h).val * 128 + d.val, by omega⟩ :=
    Fin.ext (by simp only [colOf, inHead, headOf]; ring)
  unfold part
  simp only [H.x, H.wq, H.k, H.v, H.wo, hc]
  rfl

/-- A sum over all the heads' coordinates by devices, heads of a device and coordinates of a head. -/
theorem sum_heads (f : Fin 8192 → EReal) : ∑ n, f n = ∑ p : Dev nD, ∑ h : Fin 8, ∑ d : Fin 128, f (colOf p (inHead h d)) := by
  rw [sum_blocks (N := 8192) (a := 8) (b := 1024) rfl f]
  refine Finset.sum_congr rfl fun p _ => ?_
  exact sum_blocks (N := 1024) (a := 8) (b := 128) rfl fun q => f (colOf p q)

/-- What the ring gathers is the reference's result at the device's rows. -/
theorem gathered_eq (H : Shares D x wq k v wo) (hx : ∀ i e, IsReal (x (ix3 0 i e))) (hw : ∀ e n, IsReal (wq (ix2 e n)))
    (hk : ∀ j h d, IsReal (k (ix4 0 j h d))) (c : Dev nD) (r : Fin 256) (e : Fin 1024) :
    ∑ p : Dev nD, part D p c r e = project (final x wq k v) wo (ix3 0 (rowOf c r) e) := by
  rw [value_apply wo hx hw hk, sum_heads]
  refine Finset.sum_congr rfl fun p _ => ?_
  rw [part_eq H]
  refine Finset.sum_congr rfl fun h _ => Finset.sum_congr rfl fun d _ => ?_
  have e1 : (⟨(colOf p (inHead h d)).val / 128, by omega⟩ : Fin 64) = headOf p h := Fin.ext (by simp only [colOf, inHead, headOf]; omega)
  have e2 : (⟨(colOf p (inHead h d)).val % 128, by omega⟩ : Fin 128) = d := Fin.ext (by simp only [colOf, inHead]; omega)
  rw [e1, e2]

end Cert.Equation

end
-- ==== Proof.Shares.lean ====
/-
  Blocks of whole arrays at an index, what the precondition says of an array, and from both: each device holds its share of
  the whole arrays, and the rows, the query weights and the keys are real.
-/
module

public import proofs.«01_k».proof.Defs
public import proofs.«01_k».proof.Proof.Equation
public import Idealize.ShloMosaic.Lib.Layout

@[expose] public section

set_option maxRecDepth 16384

noncomputable section

namespace Cert.Equation

open Idealize.ShloMosaic Idealize.ShloMosaic.TcCoe
open Cert.Online
open Cert.KernelIdeal (nD τ sig)
open Cert.KernelIdeal.Gen
open Cert.KernelIdeal.Pass (Inp inp headOf x_apply wq_apply wo_apply k_apply v_apply)
open Cert.ReferenceIdeal (S1x2048x1024 S1024x8192 S1x4096x64x128 S8192x1024)

/-- A device's block of rows. -/
theorem block_rows {α : Type} (v : S1x2048x1024.Idx → α) (c : Dev nD) (r : Fin 256) (e : Fin 1024) :
    Layout.block ⟨3, ![1, 256, 1024]⟩ ⟨3, ![1, 2048, 1024]⟩ 1 8 c v (by decide) (ix3 0 r e) = v (ix3 0 (rowOf c r) e) :=
  congrArg v (funext fun a => match a with | ⟨0, _⟩ => rfl | ⟨1, _⟩ => rfl | ⟨2, _⟩ => rfl)

/-- A device's block of columns. -/
theorem block_cols {α : Type} (v : S1024x8192.Idx → α) (c : Dev nD) (e q : Fin 1024) :
    Layout.block ⟨2, ![1024, 1024]⟩ ⟨2, ![1024, 8192]⟩ 1 8 c v (by decide) (ix2 e q) = v (ix2 e (colOf c q)) :=
  congrArg v (funext fun a => match a with | ⟨0, _⟩ => rfl | ⟨1, _⟩ => rfl)

/-- A device's block of the output weights. -/
theorem block_outs {α : Type} (v : S8192x1024.Idx → α) (c : Dev nD) (q e : Fin 1024) :
    Layout.block ⟨2, ![1024, 1024]⟩ ⟨2, ![8192, 1024]⟩ 0 8 c v (by decide) (ix2 q e) = v (ix2 (colOf c q) e) :=
  congrArg v (funext fun a => match a with | ⟨0, _⟩ => rfl | ⟨1, _⟩ => rfl)

/-- What is below +∞ in absolute value is real. -/
theorem real_of_lt {s : Shape} (a : FVec Ideal s .bf16) (hb : FTy.bits .bf16 < FTy.bits .f32)
    (hc : (⟨0, ![]⟩ : Shape).BroadcastsInDim s (![] : Fin 0 → Fin s.rank)) (j : s.Idx)
    (h : cmpf .olt (Host.absf (extf .f32 a hb)) (broadcastInDim s ![] hc (constant (⟨0, ![]⟩ : Shape) .f32 0x7F800000#32)) j = 1#1) : IsReal (a j) := by
  have top : Ideal.ofBits .f32 0x7F800000#32 = ⊤ := by simp [Ideal.ofBits, Ideal.ieee]
  have h' : Ideal.cmp .olt (max (a j) (-(a j))) (Ideal.ofBits .f32 0x7F800000#32) = 1#1 := h
  rw [top] at h'
  refine IsReal.of_abs ?_
  by_contra hn
  simp [Ideal.cmp, hn] at h'

variable (m : (ℓ : Loc nD τ sig) → Buf (Elt Ideal) ℓ)
variable {x : FVec Ideal S1x2048x1024 .bf16} {wq : FVec Ideal S1024x8192 .bf16}
    {k v : FVec Ideal S1x4096x64x128 .bf16} {wo : FVec Ideal S8192x1024 .bf16}

/-- The kernel's arguments are the devices' blocks of the whole arrays. -/
structure Args (x : FVec Ideal S1x2048x1024 .bf16) (wq : FVec Ideal S1024x8192 .bf16)
    (k v : FVec Ideal S1x4096x64x128 .bf16) (wo : FVec Ideal S8192x1024 .bf16) : Prop where
  x : ∀ c : Dev nD, m ((c.tc : Thread nD τ).loc Cert.KernelIdeal.main_arg0) = Layout.block ⟨3, ![1, 256, 1024]⟩ ⟨3, ![1, 2048, 1024]⟩ 1 8 c x
  wq : ∀ c : Dev nD, m ((c.tc : Thread nD τ).loc Cert.KernelIdeal.main_arg1) = Layout.block ⟨2, ![1024, 1024]⟩ ⟨2, ![1024, 8192]⟩ 1 8 c wq
  k : ∀ c : Dev nD, m ((c.tc : Thread nD τ).loc Cert.KernelIdeal.main_arg2) = k
  v : ∀ c : Dev nD, m ((c.tc : Thread nD τ).loc Cert.KernelIdeal.main_arg3) = v
  wo : ∀ c : Dev nD, m ((c.tc : Thread nD τ).loc Cert.KernelIdeal.main_arg4) = Layout.block ⟨2, ![1024, 1024]⟩ ⟨2, ![8192, 1024]⟩ 0 8 c wo

/-- The kernel's operands are the devices' shares. -/
theorem shares (A : Args m x wq k v wo) : Shares (inp m) x wq k v wo where
  x c r e := (x_apply m c r e).trans ((congrFun (A.x c) _).trans (block_rows x c r e))
  wq p h e d := (wq_apply m p h e d).trans ((congrFun (A.wq p) _).trans (block_cols wq p e (inHead h d)))
  k p h j d := (k_apply m p h j d).trans (congrFun (A.k p) _)
  v p h j d := (v_apply m p h j d).trans (congrFun (A.v p) _)
  wo p h d e := (wo_apply m p h e d).trans ((congrFun (A.wo p) _).trans (block_outs wo p (inHead h d) e))

variable [Cert.Pre_finite_KernelIdeal.Facts]

/-- Under the precondition the rows are real. -/
theorem rows_real (A : Args m x wq k v wo) (P : Cert.Pre_KernelIdeal_finite_KernelIdeal m) (i : Fin 2048) (e : Fin 1024) : IsReal (x (ix3 0 i e)) := by
  have h := real_of_lt _ _ _ (ix3 0 (⟨i.val % 256, by omega⟩ : Fin 256) e) (congrFun (P (⟨i.val / 256, by omega⟩ : Fin 8)).1 _)
  rw [A.x, block_rows] at h
  have e1 : rowOf (⟨i.val / 256, by omega⟩ : Fin 8) ⟨i.val % 256, by omega⟩ = i := Fin.ext (by simp only [rowOf]; omega)
  rwa [e1] at h

/-- Under the precondition the query weights are real. -/
theorem cols_real (A : Args m x wq k v wo) (P : Cert.Pre_KernelIdeal_finite_KernelIdeal m) (e : Fin 1024) (n : Fin 8192) : IsReal (wq (ix2 e n)) := by
  have h := real_of_lt _ _ _ (ix2 e (⟨n.val % 1024, by omega⟩ : Fin 1024)) (congrFun (P (⟨n.val / 1024, by omega⟩ : Fin 8)).2.1 _)
  rw [A.wq, block_cols] at h
  have e1 : colOf (⟨n.val / 1024, by omega⟩ : Fin 8) ⟨n.val % 1024, by omega⟩ = n := Fin.ext (by simp only [colOf]; omega)
  rwa [e1] at h

/-- Under the precondition the keys are real. -/
theorem keys_real (A : Args m x wq k v wo) (P : Cert.Pre_KernelIdeal_finite_KernelIdeal m) (j : Fin 4096) (h : Fin 64) (d : Fin 128) : IsReal (k (ix4 0 j h d)) := by
  have e := real_of_lt _ _ _ (ix4 0 j h d) (congrFun (P (0 : Fin 8)).2.2 _)
  rwa [A.k] at e

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Shares

@[expose] public section

set_option maxRecDepth 16384

noncomputable section

namespace Cert.Proof

open Idealize.ShloMosaic Idealize.SL.Sem

set_option backward.isDefEq.respectTransparency false in
/-- The two programs' kernels are one text: their body tables agree, over any float values. -/
theorem bodies {F : FTy → Type} [FloatOps F] : Cert.Kernel.defs₀ (F := F) = Cert.KernelIdeal.defs₀ (F := F) := by
  funext co ℓ a
  cases co with
  | tc =>
    match ℓ, a with
    | 0, (t, s) => rfl
    | ⟨_ + 1, h⟩, _ => exact absurd h (Nat.not_lt.2 (Nat.le_add_left _ _))
  | scScalar _ => rfl
  | scVector _ _ => rfl

set_option backward.isDefEq.respectTransparency false in
/-- Their tables of regions and pipelines agree too. -/
theorem tables {F : FTy → Type} [FloatOps F] : Cert.Kernel.defs (F := F) = Cert.KernelIdeal.defs (F := F) := by
  unfold Cert.Kernel.defs
  rw [bodies]
  rfl

set_option backward.isDefEq.respectTransparency false in
/-- The bit-level kernel ends from any memory, its arguments as they were, every counter at zero. -/
theorem frame_kernel : Cert.quiescent_Kernel := by
  intro m ρ _
  have h : θ_run Cert.KernelIdeal.defs _ _ _ := (θ_run Cert.KernelIdeal.defs _ _).mono (fun _ h => And.intro (fun c => (h.1 c).2) h.2)
    (Cert.KernelIdeal.Pass.run_main (F := Bits) m ρ)
  rw [tables]
  exact h

/-- The ideal kernel ends from any memory, its arguments as they were, every counter at zero. -/
theorem frame_ideal : Cert.quiescent_KernelIdeal := fun m ρ _ =>
  (θ_run Cert.KernelIdeal.defs _ _).mono (fun _ h => ⟨fun c => (h.1 c).2, h.2⟩)
    (Cert.KernelIdeal.Pass.run_main (F := Ideal) m ρ)

/-- The reference ends from any memory, its arguments as they were, every counter at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The facts the precondition states of the kernel's shapes. -/
theorem pre_kernel_facts : Cert.Pre_finite_KernelIdeal.Facts where
  bitsLt_bf16_f32 := by decide
  bcast_S_S1x256x1024 := by decide
  bcast_S_S1024x1024 := by decide
  bcast_S_S1x4096x64x128 := by decide

/-- The facts the precondition states of the reference's shapes. -/
theorem pre_reference_facts : Cert.Pre_finite_ReferenceIdeal.Facts where
  bitsLt_bf16_f32 := by decide
  bcast_S_S1x2048x1024 := by decide
  bcast_S_S1024x8192 := by decide
  bcast_S_S1x4096x64x128 := by decide

open Idealize.ShloMosaic.TcCoe in
/-- Under the precondition the result on device `c` is its block of the reference's result. -/
theorem value_eq [Cert.Pre_finite_KernelIdeal.Facts] (m : (ℓ : Loc Cert.KernelIdeal.nD Cert.KernelIdeal.τ Cert.KernelIdeal.sig) → Buf (Elt Ideal) ℓ)
    {x : FVec Ideal Cert.ReferenceIdeal.S1x2048x1024 .bf16} {wq : FVec Ideal Cert.ReferenceIdeal.S1024x8192 .bf16}
    {k v : FVec Ideal Cert.ReferenceIdeal.S1x4096x64x128 .bf16} {wo : FVec Ideal Cert.ReferenceIdeal.S8192x1024 .bf16}
    (A : Cert.Equation.Args m x wq k v wo) (P : Cert.Pre_KernelIdeal_finite_KernelIdeal m) (c : Dev Cert.KernelIdeal.nD) :
    Cert.KernelIdeal.Gen.V3 m (Cert.KernelIdeal.Pass.outs m) c Cert.KernelIdeal.main_v24
      = Layout.block ⟨3, ![1, 256, 1024]⟩ ⟨3, ![1, 2048, 1024]⟩ 1 8 c (Cert.ReferenceIdeal.Stage.project (Cert.ReferenceIdeal.Stage.final x wq k v) wo) := by
  funext j
  have ej : j = ix3 (n0 := 1) (n1 := 256) (n2 := 1024) 0 (j 1) (j 2) :=
    (eq_ix3 j).trans (congrArg (fun z => ix3 (n0 := 1) (n1 := 256) (n2 := 1024) z (j 1) (j 2)) (Subsingleton.elim (α := Fin 1) (j 0) 0))
  rw [ej]
  refine (Cert.KernelIdeal.Pass.out_apply m c _ (j 1) (j 2)).trans ?_
  rw [Cert.KernelIdeal.Pass.outs_eq]
  refine (Cert.KernelIdeal.Pass.result_apply _ c (j 1) (j 2)).trans ?_
  refine (Cert.Equation.gathered_eq (Cert.Equation.shares m A) (Cert.Equation.rows_real m A P) (Cert.Equation.cols_real m A P) (Cert.Equation.keys_real m A P) c (j 1) (j 2)).trans ?_
  exact (Cert.Equation.block_rows _ c (j 1) (j 2)).symm

/-- Under the precondition the kernel's result is the reference's, block by block. -/
theorem algebraic [Cert.Pre_finite_KernelIdeal.Facts] : Cert.algebraic_KernelIdeal_ReferenceIdeal_pre_finite_KernelIdeal := by
  intro m ρ m' ρ' P h
  have A : Cert.Equation.Args m _ _ _ _ _ := ⟨fun c => (h c).1, fun c => (h c).2.1, fun c => (h c).2.2.1, fun c => (h c).2.2.2.1, fun c => (h c).2.2.2.2⟩
  refine ⟨Cert.ReferenceIdeal.Value.res_main_v106 m' 0, ?_, ?_⟩
  · refine (θ_run Cert.KernelIdeal.defs _ _).mono (fun _ r c => ⟨?_, (r.1 c).2⟩) (Cert.KernelIdeal.Pass.run_main (F := Ideal) m ρ)
    rw [Cert.ReferenceIdeal.Stage.value_eq]
    exact (r.1 c).1.trans (value_eq m A P c)
  · exact (θ_run Cert.ReferenceIdeal.defs _ _).mono (fun _ r => r 0) (Cert.ReferenceIdeal.Value.run (F := Ideal) m' ρ')

/-- The programs and the precondition meet their stated facts, and every claim about them holds. -/
theorem claim : Cert.Claim := ⟨Cert.Kernel.Gen.facts, Cert.KernelIdeal.Gen.facts, Cert.ReferenceIdeal.Gen.facts, pre_kernel_facts, pre_reference_facts,
  frame_kernel, frame_ideal, fun m ρ _ => frame_ideal m ρ True.intro, frame_reference, fun m ρ _ => frame_reference m ρ True.intro, trivial,
  haveI := pre_kernel_facts; algebraic⟩

end Cert.Proof

end
